-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "inv_sqrt_31" .f32 0x3E37EA74#32 (((Real.sqrt 31)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x2048 : Shape := ⟨2, ![64, 2048]⟩
abbrev S3x1x128 : Shape := ⟨3, ![3, 1, 128]⟩
abbrev S128 : Shape := ⟨1, ![128]⟩
abbrev S3x128x128 : Shape := ⟨3, ![3, 128, 128]⟩
abbrev S128x128 : Shape := ⟨2, ![128, 128]⟩
abbrev S128x1 : Shape := ⟨2, ![128, 1]⟩
abbrev S1 : Shape := ⟨1, ![1]⟩
abbrev S128x256 : Shape := ⟨2, ![128, 256]⟩
abbrev S256 : Shape := ⟨1, ![256]⟩
abbrev S_ : Shape := ⟨0, ![]⟩

class Facts : Prop where
  bcast_S_S64x2048 : S_.BroadcastsInDim S64x2048 (![] : Fin 0 → Fin S64x2048.rank)
  bcast_S_S3x1x128 : S_.BroadcastsInDim S3x1x128 (![] : Fin 0 → Fin S3x1x128.rank)
  bcast_S_S128 : S_.BroadcastsInDim S128 (![] : Fin 0 → Fin S128.rank)
  bcast_S_S3x128x128 : S_.BroadcastsInDim S3x128x128 (![] : Fin 0 → Fin S3x128x128.rank)
  bcast_S_S128x128 : S_.BroadcastsInDim S128x128 (![] : Fin 0 → Fin S128x128.rank)
  bcast_S_S128x1 : S_.BroadcastsInDim S128x1 (![] : Fin 0 → Fin S128x1.rank)
  bcast_S_S1 : S_.BroadcastsInDim S1 (![] : Fin 0 → Fin S1.rank)

variable [Facts]

def fn_part2 {F : FTy → Type} [FloatOps F] (main_arg12 : FVec F S128 .f32) (main_arg13 : FVec F S128x1 .f32) (main_arg14 : FVec F S1 .f32) (main_v2 : IVec S64x2048 1) (main_v5 : IVec S3x1x128 1) (main_v8 : IVec S128 1) (main_v11 : IVec S3x128x128 1) (main_v14 : IVec S128 1) (main_v17 : IVec S128x128 1) (main_v20 : IVec S128 1) (main_v23 : IVec S128x128 1) (main_v26 : IVec S128 1) (main_v29 : IVec S128x128 1) (main_v32 : IVec S128 1) (main_v35 : IVec S128x128 1) : IVec S64x2048 1 × IVec S3x1x128 1 × IVec S128 1 × IVec S3x128x128 1 × IVec S128 1 × IVec S128x128 1 × IVec S128 1 × IVec S128x128 1 × IVec S128 1 × IVec S128x128 1 × IVec S128 1 × IVec S128x128 1 × IVec S128 1 × IVec S128x1 1 × IVec S1 1 :=
  let main_v36 : FVec F S128 .f32 := Host.absf main_arg12
  let main_cst_11 : FVec F S_ .f32 := constant S_ .f32 0x7F800000#32
  let main_v37 : FVec F S128 .f32 := broadcastInDim S128 ![] bcast_S_S128 main_cst_11
  let main_v38 : IVec S128 1 := cmpf .olt main_v36 main_v37
  let main_v39 : FVec F S128x1 .f32 := Host.absf main_arg13
  let main_cst_12 : FVec F S_ .f32 := constant S_ .f32 0x7F800000#32
  let main_v40 : FVec F S128x1 .f32 := broadcastInDim S128x1 ![] bcast_S_S128x1 main_cst_12
  let main_v41 : IVec S128x1 1 := cmpf .olt main_v39 main_v40
  let main_v42 : FVec F S1 .f32 := Host.absf main_arg14
  let main_cst_13 : FVec F S_ .f32 := constant S_ .f32 0x7F800000#32
  let main_v43 : FVec F S1 .f32 := broadcastInDim S1 ![] bcast_S_S1 main_cst_13
  let main_v44 : IVec S1 1 := cmpf .olt main_v42 main_v43
  (main_v2, main_v5, main_v8, main_v11, main_v14, main_v17, main_v20, main_v23, main_v26, main_v29, main_v32, main_v35, main_v38, main_v41, main_v44)

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_arg14 : FVec F S1 .f32) (main_v2 : IVec S64x2048 1) (main_v5 : IVec S3x1x128 1) (main_v8 : IVec S128 1) (main_v11 : IVec S3x128x128 1) (main_v14 : IVec S128 1) (main_v17 : IVec S128x128 1) : IVec S64x2048 1 × IVec S3x1x128 1 × IVec S128 1 × IVec S3x128x128 1 × IVec S128 1 × IVec S128x128 1 × IVec S128 1 × IVec S128x128 1 × IVec S128 1 × IVec S128x128 1 × IVec S128 1 × IVec S128x128 1 × IVec S128 1 × IVec S128x1 1 × IVec S1 1 :=
  let main_v18 : FVec F S128 .f32 := Host.absf main_arg6
  let main_cst_5 : FVec F S_ .f32 := constant S_ .f32 0x7F800000#32
  let main_v19 : FVec F S128 .f32 := broadcastInDim S128 ![] bcast_S_S128 main_cst_5
  let main_v20 : IVec S128 1 := cmpf .olt main_v18 main_v19
  let main_v21 : FVec F S128x128 .f32 := Host.absf main_arg7
  let main_cst_6 : FVec F S_ .f32 := constant S_ .f32 0x7F800000#32
  let main_v22 : FVec F S128x128 .f32 := broadcastInDim S128x128 ![] bcast_S_S128x128 main_cst_6
  let main_v23 : IVec S128x128 1 := cmpf .olt main_v21 main_v22
  let main_v24 : FVec F S128 .f32 := Host.absf main_arg8
  let main_cst_7 : FVec F S_ .f32 := constant S_ .f32 0x7F800000#32
  let main_v25 : FVec F S128 .f32 := broadcastInDim S128 ![] bcast_S_S128 main_cst_7
  let main_v26 : IVec S128 1 := cmpf .olt main_v24 main_v25
  let main_v27 : FVec F S128x128 .f32 := Host.absf main_arg9
  let main_cst_8 : FVec F S_ .f32 := constant S_ .f32 0x7F800000#32
  let main_v28 : FVec F S128x128 .f32 := broadcastInDim S128x128 ![] bcast_S_S128x128 main_cst_8
  let main_v29 : IVec S128x128 1 := cmpf .olt main_v27 main_v28
  let main_v30 : FVec F S128 .f32 := Host.absf main_arg10
  let main_cst_9 : FVec F S_ .f32 := constant S_ .f32 0x7F800000#32
  let main_v31 : FVec F S128 .f32 := broadcastInDim S128 ![] bcast_S_S128 main_cst_9
  let main_v32 : IVec S128 1 := cmpf .olt main_v30 main_v31
  let main_v33 : FVec F S128x128 .f32 := Host.absf main_arg11
  let main_cst_10 : FVec F S_ .f32 := constant S_ .f32 0x7F800000#32
  let main_v34 : FVec F S128x128 .f32 := broadcastInDim S128x128 ![] bcast_S_S128x128 main_cst_10
  let main_v35 : IVec S128x128 1 := cmpf .olt main_v33 main_v34
  fn_part2 (F := F) main_arg12 main_arg13 main_arg14 main_v2 main_v5 main_v8 main_v11 main_v14 main_v17 main_v20 main_v23 main_v26 main_v29 main_v32 main_v35

def fn {F : FTy → Type} [FloatOps F] (main_arg0 : FVec F S64x2048 .f32) (main_arg1 : FVec F S3x1x128 .f32) (main_arg2 : FVec F S128 .f32) (main_arg3 : FVec F S3x128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_arg14 : FVec F S1 .f32) (main_arg15 : FVec F S128 .f32) (main_arg16 : FVec F S128 .f32) (main_arg17 : FVec F S128x256 .f32) (main_arg18 : FVec F S256 .f32) : IVec S64x2048 1 × IVec S3x1x128 1 × IVec S128 1 × IVec S3x128x128 1 × IVec S128 1 × IVec S128x128 1 × IVec S128 1 × IVec S128x128 1 × IVec S128 1 × IVec S128x128 1 × IVec S128 1 × IVec S128x128 1 × IVec S128 1 × IVec S128x1 1 × IVec S1 1 :=
  let main_v0 : FVec F S64x2048 .f32 := Host.absf main_arg0
  let main_cst : FVec F S_ .f32 := constant S_ .f32 0x7F800000#32
  let main_v1 : FVec F S64x2048 .f32 := broadcastInDim S64x2048 ![] bcast_S_S64x2048 main_cst
  let main_v2 : IVec S64x2048 1 := cmpf .olt main_v0 main_v1
  let main_v3 : FVec F S3x1x128 .f32 := Host.absf main_arg1
  let main_cst_0 : FVec F S_ .f32 := constant S_ .f32 0x7F800000#32
  let main_v4 : FVec F S3x1x128 .f32 := broadcastInDim S3x1x128 ![] bcast_S_S3x1x128 main_cst_0
  let main_v5 : IVec S3x1x128 1 := cmpf .olt main_v3 main_v4
  let main_v6 : FVec F S128 .f32 := Host.absf main_arg2
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_v12 : FVec F S128 .f32 := Host.absf main_arg4
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_v15 : FVec F S128x128 .f32 := Host.absf main_arg5
  let main_cst_4 : FVec F S_ .f32 := constant S_ .f32 0x7F800000#32
  let main_v16 : FVec F S128x128 .f32 := broadcastInDim S128x128 ![] bcast_S_S128x128 main_cst_4
  let main_v17 : IVec S128x128 1 := cmpf .olt main_v15 main_v16
  fn_part1 (F := F) main_arg6 main_arg7 main_arg8 main_arg9 main_arg10 main_arg11 main_arg12 main_arg13 main_arg14 main_v2 main_v5 main_v8 main_v11 main_v14 main_v17
-- ==== Kernel.lean ====
abbrev S64x2048 : Shape := ⟨2, ![64, 2048]⟩
abbrev S3x1x128 : Shape := ⟨3, ![3, 1, 128]⟩
abbrev S128 : Shape := ⟨1, ![128]⟩
abbrev S3x128x128 : Shape := ⟨3, ![3, 128, 128]⟩
abbrev S128x128 : Shape := ⟨2, ![128, 128]⟩
abbrev S128x1 : Shape := ⟨2, ![128, 1]⟩
abbrev S1 : Shape := ⟨1, ![1]⟩
abbrev S128x256 : Shape := ⟨2, ![128, 256]⟩
abbrev S256 : Shape := ⟨1, ![256]⟩
abbrev S64x512x4 : Shape := ⟨3, ![64, 512, 4]⟩
abbrev S1x1x128 : Shape := ⟨3, ![1, 1, 128]⟩
abbrev S_ : Shape := ⟨0, ![]⟩
abbrev S512 : Shape := ⟨1, ![512]⟩
abbrev S1x512 : Shape := ⟨2, ![1, 512]⟩
abbrev S6x512 : Shape := ⟨2, ![6, 512]⟩
abbrev S1x128x1x1 : Shape := ⟨4, ![1, 128, 1, 1]⟩
abbrev S1x128x128x1 : Shape := ⟨4, ![1, 128, 128, 1]⟩
abbrev S160 : Shape := ⟨1, ![160]⟩
abbrev S1x160 : Shape := ⟨2, ![1, 160]⟩
abbrev S128x160 : Shape := ⟨2, ![128, 160]⟩
abbrev S1x128 : Shape := ⟨2, ![1, 128]⟩
abbrev S1x256 : Shape := ⟨2, ![1, 256]⟩
abbrev S64x1x256 : Shape := ⟨3, ![64, 1, 256]⟩
abbrev S4x512x4 : Shape := ⟨3, ![4, 512, 4]⟩
abbrev S4x1x256 : Shape := ⟨3, ![4, 1, 256]⟩
abbrev S1x512x4 : Shape := ⟨3, ![1, 512, 4]⟩
abbrev S512x4 : Shape := ⟨2, ![512, 4]⟩
abbrev S512x1 : Shape := ⟨2, ![512, 1]⟩
abbrev S1x1 : Shape := ⟨2, ![1, 1]⟩
abbrev S511x1 : Shape := ⟨2, ![511, 1]⟩
abbrev S512x6 : Shape := ⟨2, ![512, 6]⟩
abbrev S6x128 : Shape := ⟨2, ![6, 128]⟩
abbrev S512x128 : Shape := ⟨2, ![512, 128]⟩
abbrev S511x128 : Shape := ⟨2, ![511, 128]⟩
abbrev S1x128x128 : Shape := ⟨3, ![1, 128, 128]⟩
abbrev S512x512 : Shape := ⟨2, ![512, 512]⟩
abbrev S16x512 : Shape := ⟨2, ![16, 512]⟩
abbrev S480x512 : Shape := ⟨2, ![480, 512]⟩
abbrev S544x512 : Shape := ⟨2, ![544, 512]⟩
abbrev S160x512 : Shape := ⟨2, ![160, 512]⟩
abbrev S128x512 : Shape := ⟨2, ![128, 512]⟩
abbrev S1x1x256 : Shape := ⟨3, ![1, 1, 256]⟩

abbrev nBuf : Space → Nat
  | .hbm => 78
  | .vmem => 22
  | .smem => 0
  | _ => 0

abbrev bufTy : (tb : Table) → Fin (tcTables nBuf tb) → BufTy
  | .hbm, ⟨0, _⟩ => ⟨S64x2048, .f32⟩
  | .hbm, ⟨1, _⟩ => ⟨S3x1x128, .f32⟩
  | .hbm, ⟨2, _⟩ => ⟨S128, .f32⟩
  | .hbm, ⟨3, _⟩ => ⟨S3x128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S128, .f32⟩
  | .hbm, ⟨16, _⟩ => ⟨S128, .f32⟩
  | .hbm, ⟨17, _⟩ => ⟨S128x256, .f32⟩
  | .hbm, ⟨18, _⟩ => ⟨S256, .f32⟩
  | .hbm, ⟨19, _⟩ => ⟨S64x512x4, .f32⟩
  | .hbm, ⟨20, _⟩ => ⟨S1x1x128, .f32⟩
  | .hbm, ⟨21, _⟩ => ⟨S128, .f32⟩
  | .hbm, ⟨22, _⟩ => ⟨S1x1x128, .f32⟩
  | .hbm, ⟨23, _⟩ => ⟨S128, .f32⟩
  | .hbm, ⟨24, _⟩ => ⟨S1x1x128, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S512, .f32⟩
  | .hbm, ⟨29, _⟩ => ⟨S512, .f32⟩
  | .hbm, ⟨30, _⟩ => ⟨S512, .f32⟩
  | .hbm, ⟨31, _⟩ => ⟨S512, .f32⟩
  | .hbm, ⟨32, _⟩ => ⟨S512, .f32⟩
  | .hbm, ⟨33, _⟩ => ⟨S512, .f32⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S6x512, .f32⟩
  | .hbm, ⟨41, _⟩ => ⟨S1x128x1x1, .f32⟩
  | .hbm, ⟨42, _⟩ => ⟨S1x128x128x1, .f32⟩
  | .hbm, ⟨43, _⟩ => ⟨S128x128, .f32⟩
  | .hbm, ⟨44, _⟩ => ⟨S128, .i32⟩
  | .hbm, ⟨45, _⟩ => ⟨S128x1, .i32⟩
  | .hbm, ⟨46, _⟩ => ⟨S160, .i32⟩
  | .hbm, ⟨47, _⟩ => ⟨S1x160, .i32⟩
  | .hbm, ⟨48, _⟩ => ⟨S128x160, .i32⟩
  | .hbm, ⟨49, _⟩ => ⟨S128x160, .i32⟩
  | .hbm, ⟨50, _⟩ => ⟨S128x160, .i32⟩
  | .hbm, ⟨51, _⟩ => ⟨S_, .i32⟩
  | .hbm, ⟨52, _⟩ => ⟨S128x160, .i32⟩
  | .hbm, ⟨53, _⟩ => ⟨S128x160, .i1⟩
  | .hbm, ⟨54, _⟩ => ⟨S128x160, .i32⟩
  | .hbm, ⟨55, _⟩ => ⟨S128x160, .i32⟩
  | .hbm, ⟨56, _⟩ => ⟨S128x160, .i32⟩
  | .hbm, ⟨57, _⟩ => ⟨S_, .i32⟩
  | .hbm, ⟨58, _⟩ => ⟨S128x160, .i32⟩
  | .hbm, ⟨59, _⟩ => ⟨S128x160, .i1⟩
  | .hbm, ⟨60, _⟩ => ⟨S128x160, .i1⟩
  | .hbm, ⟨61, _⟩ => ⟨S128x160, .f32⟩
  | .hbm, ⟨62, _⟩ => ⟨S1x128, .f32⟩
  | .hbm, ⟨63, _⟩ => ⟨S_, .f32⟩
  | .hbm, ⟨64, _⟩ => ⟨S3x128x128, .f32⟩
  | .hbm, ⟨65, _⟩ => ⟨S3x128x128, .f32⟩
  | .hbm, ⟨66, _⟩ => ⟨S1x128, .f32⟩
  | .hbm, ⟨67, _⟩ => ⟨S_, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x256, .f32⟩
  | .hbm, ⟨77, _⟩ => ⟨S64x1x256, .f32⟩
  | .local _ .vmem, ⟨0, _⟩ => ⟨S4x512x4, .f32⟩
  | .local _ .vmem, ⟨1, _⟩ => ⟨S4x512x4, .f32⟩
  | .local _ .vmem, ⟨2, _⟩ => ⟨S6x512, .f32⟩
  | .local _ .vmem, ⟨3, _⟩ => ⟨S128x160, .f32⟩
  | .local _ .vmem, ⟨4, _⟩ => ⟨S1x128, .f32⟩
  | .local _ .vmem, ⟨5, _⟩ => ⟨S3x128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S1x128, .f32⟩
  | .local _ .vmem, ⟨18, _⟩ => ⟨S128x256, .f32⟩
  | .local _ .vmem, ⟨19, _⟩ => ⟨S1x256, .f32⟩
  | .local _ .vmem, ⟨20, _⟩ => ⟨S4x1x256, .f32⟩
  | .local _ .vmem, ⟨21, _⟩ => ⟨S4x1x256, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_1 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_2 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S4x1x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== KernelIdeal.lean ====
variable {F : FTy → Type} [FloatOps F] [Named F]
def κ : String → Option EReal := fun
  | "inv_sqrt_31" => some (((Real.sqrt 31)⁻¹ : ℝ) : EReal)
  | _ => none
-- ==== ReferenceIdeal.lean ====
abbrev S64x2048 : Shape := ⟨2, ![64, 2048]⟩
abbrev S3x1x128 : Shape := ⟨3, ![3, 1, 128]⟩
abbrev S128 : Shape := ⟨1, ![128]⟩
abbrev S3x128x128 : Shape := ⟨3, ![3, 128, 128]⟩
abbrev S128x128 : Shape := ⟨2, ![128, 128]⟩
abbrev S128x1 : Shape := ⟨2, ![128, 1]⟩
abbrev S1 : Shape := ⟨1, ![1]⟩
abbrev S128x256 : Shape := ⟨2, ![128, 256]⟩
abbrev S256 : Shape := ⟨1, ![256]⟩
abbrev S64x2048x1 : Shape := ⟨3, ![64, 2048, 1]⟩
abbrev S_ : Shape := ⟨0, ![]⟩
abbrev S64x1x1 : Shape := ⟨3, ![64, 1, 1]⟩
abbrev S64x2050x1 : Shape := ⟨3, ![64, 2050, 1]⟩
abbrev S1x1x128 : Shape := ⟨3, ![1, 1, 128]⟩
abbrev S1x128 : Shape := ⟨2, ![1, 128]⟩
abbrev S64x2048x128 : Shape := ⟨3, ![64, 2048, 128]⟩
abbrev S64x1024x2x128 : Shape := ⟨4, ![64, 1024, 2, 128]⟩
abbrev S64x1024x128 : Shape := ⟨3, ![64, 1024, 128]⟩
abbrev S64x1x128 : Shape := ⟨3, ![64, 1, 128]⟩
abbrev S64x1026x128 : Shape := ⟨3, ![64, 1026, 128]⟩
abbrev S1x128x128 : Shape := ⟨3, ![1, 128, 128]⟩
abbrev S64x512x2x128 : Shape := ⟨4, ![64, 512, 2, 128]⟩
abbrev S64x512x128 : Shape := ⟨3, ![64, 512, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S64x128x512 : Shape := ⟨3, ![64, 128, 512]⟩
abbrev S64x512x1 : Shape := ⟨3, ![64, 512, 1]⟩
abbrev S1x1x1 : Shape := ⟨3, ![1, 1, 1]⟩
abbrev S64x512 : Shape := ⟨2, ![64, 512]⟩
abbrev S64 : Shape := ⟨1, ![64]⟩
abbrev S64x1 : Shape := ⟨2, ![64, 1]⟩
abbrev S64x128 : Shape := ⟨2, ![64, 128]⟩
abbrev S64x256 : Shape := ⟨2, ![64, 256]⟩
abbrev S1x256 : Shape := ⟨2, ![1, 256]⟩
abbrev S64x1x256 : Shape := ⟨3, ![64, 1, 256]⟩

abbrev nBuf : Space → Nat
  | .hbm => 234
  | .vmem => 0
  | .smem => 0
  | _ => 0

abbrev hbmTy0_0 (i : Nat) : BufTy := match i % 128 with
  | 0 => ⟨S64x2048, .f32⟩
  | 1 => ⟨S3x1x128, .f32⟩
  | 2 => ⟨S128, .f32⟩
  | 3 => ⟨S3x128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x1, .f32⟩
  | 14 => ⟨S1, .f32⟩
  | 15 => ⟨S128, .f32⟩
  | 16 => ⟨S128, .f32⟩
  | 17 => ⟨S128x256, .f32⟩
  | 18 => ⟨S256, .f32⟩
  | 19 => ⟨S64x2048x1, .f32⟩
  | 20 => ⟨S_, .f32⟩
  | 21 => ⟨S64x1x1, .f32⟩
  | 22 => ⟨S64x2050x1, .f32⟩
  | 23 => ⟨S64x2048x1, .f32⟩
  | 24 => ⟨S1x1x128, .f32⟩
  | 25 => ⟨S1x128, .f32⟩
  | 26 => ⟨S64x2048x128, .f32⟩
  | 27 => ⟨S64x2048x1, .f32⟩
  | 28 => ⟨S1x1x128, .f32⟩
  | 29 => ⟨S1x128, .f32⟩
  | 30 => ⟨S64x2048x128, .f32⟩
  | 31 => ⟨S64x2048x128, .f32⟩
  | 32 => ⟨S64x2048x1, .f32⟩
  | 33 => ⟨S1x1x128, .f32⟩
  | 34 => ⟨S1x128, .f32⟩
  | 35 => ⟨S64x2048x128, .f32⟩
  | 36 => ⟨S64x2048x128, .f32⟩
  | 37 => ⟨S1x1x128, .f32⟩
  | 38 => ⟨S64x2048x128, .f32⟩
  | 39 => ⟨S64x2048x128, .f32⟩
  | 40 => ⟨S_, .f32⟩
  | 41 => ⟨S64x2048x128, .f32⟩
  | 42 => ⟨S64x2048x128, .f32⟩
  | 43 => ⟨S64x1024x2x128, .f32⟩
  | 44 => ⟨S_, .f32⟩
  | 45 => ⟨S64x1024x128, .f32⟩
  | 46 => ⟨S_, .f32⟩
  | 47 => ⟨S64x1024x128, .f32⟩
  | 48 => ⟨S64x1024x128, .f32⟩
  | 49 => ⟨S_, .f32⟩
  | 50 => ⟨S64x1x128, .f32⟩
  | 51 => ⟨S64x1026x128, .f32⟩
  | 52 => ⟨S64x1024x128, .f32⟩
  | 53 => ⟨S1x128x128, .f32⟩
  | 54 => ⟨S128x128, .f32⟩
  | 55 => ⟨S64x1024x128, .f32⟩
  | 56 => ⟨S64x1024x128, .f32⟩
  | 57 => ⟨S1x128x128, .f32⟩
  | 58 => ⟨S128x128, .f32⟩
  | 59 => ⟨S64x1024x128, .f32⟩
  | 60 => ⟨S64x1024x128, .f32⟩
  | 61 => ⟨S64x1024x128, .f32⟩
  | 62 => ⟨S1x128x128, .f32⟩
  | 63 => ⟨S128x128, .f32⟩
  | 64 => ⟨S64x1024x128, .f32⟩
  | 65 => ⟨S64x1024x128, .f32⟩
  | 66 => ⟨S1x1x128, .f32⟩
  | 67 => ⟨S64x1024x128, .f32⟩
  | 68 => ⟨S64x1024x128, .f32⟩
  | 69 => ⟨S_, .f32⟩
  | 70 => ⟨S64x1024x128, .f32⟩
  | 71 => ⟨S64x1024x128, .f32⟩
  | 72 => ⟨S64x512x2x128, .f32⟩
  | 73 => ⟨S_, .f32⟩
  | 74 => ⟨S64x512x128, .f32⟩
  | 75 => ⟨S_, .f32⟩
  | 76 => ⟨S64x512x128, .f32⟩
  | 77 => ⟨S64x512x128, .f32⟩
  | 78 => ⟨S512, .i32⟩
  | 79 => ⟨S512x1, .i32⟩
  | 80 => ⟨S1x512, .i32⟩
  | 81 => ⟨S512x512, .i32⟩
  | 82 => ⟨S512x512, .i32⟩
  | 83 => ⟨S512x512, .i32⟩
  | 84 => ⟨S512x512, .i32⟩
  | 85 => ⟨S_, .i32⟩
  | 86 => ⟨S512x512, .i32⟩
  | 87 => ⟨S512x512, .i1⟩
  | 88 => ⟨S512x512, .f32⟩
  | 89 => ⟨S_, .f32⟩
  | 90 => ⟨S512, .f32⟩
  | 91 => ⟨S512, .f32⟩
  | 92 => ⟨S_, .f32⟩
  | 93 => ⟨S512, .f32⟩
  | 94 => ⟨S512, .f32⟩
  | 95 => ⟨S512x1, .f32⟩
  | 96 => ⟨S512x512, .f32⟩
  | 97 => ⟨S512x512, .f32⟩
  | 98 => ⟨S1x512, .f32⟩
  | 99 => ⟨S512x512, .f32⟩
  | 100 => ⟨S512x512, .f32⟩
  | 101 => ⟨S64x128x512, .f32⟩
  | 102 => ⟨S64x512x128, .f32⟩
  | 103 => ⟨S64x512x128, .f32⟩
  | 104 => ⟨S1x1x128, .f32⟩
  | 105 => ⟨S64x512x128, .f32⟩
  | 106 => ⟨S64x512x128, .f32⟩
  | 107 => ⟨S_, .f32⟩
  | 108 => ⟨S64x512x128, .f32⟩
  | 109 => ⟨S64x512x128, .f32⟩
  | 110 => ⟨S64x512x128, .f32⟩
  | 111 => ⟨S_, .f32⟩
  | 112 => ⟨S64x512x128, .f32⟩
  | 113 => ⟨S64x512x128, .f32⟩
  | 114 => ⟨S64x512x128, .f32⟩
  | 115 => ⟨S64x512x128, .f32⟩
  | 116 => ⟨S64x512x128, .f32⟩
  | 117 => ⟨S64x128x512, .f32⟩
  | 118 => ⟨S64x512x128, .f32⟩
  | 119 => ⟨S64x512x128, .f32⟩
  | 120 => ⟨S1x1x128, .f32⟩
  | 121 => ⟨S64x512x128, .f32⟩
  | 122 => ⟨S64x512x128, .f32⟩
  | 123 => ⟨S_, .f32⟩
  | 124 => ⟨S64x512x128, .f32⟩
  | 125 => ⟨S64x512x128, .f32⟩
  | 126 => ⟨S64x512x128, .f32⟩
  | 127 => ⟨S_, .f32⟩
  | _ => ⟨S64x2048, .f32⟩

abbrev hbmTy0_1 (i : Nat) : BufTy := match i % 128 with
  | 0 => ⟨S64x512x128, .f32⟩
  | 1 => ⟨S64x512x128, .f32⟩
  | 2 => ⟨S64x512x128, .f32⟩
  | 3 => ⟨S64x512x128, .f32⟩
  | 4 => ⟨S64x512x128, .f32⟩
  | 5 => ⟨S64x128x512, .f32⟩
  | 6 => ⟨S64x512x128, .f32⟩
  | 7 => ⟨S64x512x128, .f32⟩
  | 8 => ⟨S1x1x128, .f32⟩
  | 9 => ⟨S64x512x128, .f32⟩
  | 10 => ⟨S64x512x128, .f32⟩
  | 11 => ⟨S_, .f32⟩
  | 12 => ⟨S64x512x128, .f32⟩
  | 13 => ⟨S64x512x128, .f32⟩
  | 14 => ⟨S64x512x128, .f32⟩
  | 15 => ⟨S_, .f32⟩
  | 16 => ⟨S64x512x128, .f32⟩
  | 17 => ⟨S64x512x128, .f32⟩
  | 18 => ⟨S64x512x128, .f32⟩
  | 19 => ⟨S64x512x128, .f32⟩
  | 20 => ⟨S64x512x128, .f32⟩
  | 21 => ⟨S64x128x512, .f32⟩
  | 22 => ⟨S64x512x128, .f32⟩
  | 23 => ⟨S64x512x128, .f32⟩
  | 24 => ⟨S1x1x128, .f32⟩
  | 25 => ⟨S64x512x128, .f32⟩
  | 26 => ⟨S64x512x128, .f32⟩
  | 27 => ⟨S_, .f32⟩
  | 28 => ⟨S64x512x128, .f32⟩
  | 29 => ⟨S64x512x128, .f32⟩
  | 30 => ⟨S64x512x128, .f32⟩
  | 31 => ⟨S_, .f32⟩
  | 32 => ⟨S64x512x128, .f32⟩
  | 33 => ⟨S64x512x128, .f32⟩
  | 34 => ⟨S64x512x128, .f32⟩
  | 35 => ⟨S64x512x128, .f32⟩
  | 36 => ⟨S64x512x128, .f32⟩
  | 37 => ⟨S64x512x1, .f32⟩
  | 38 => ⟨S1x1x1, .f32⟩
  | 39 => ⟨S64x512x1, .f32⟩
  | 40 => ⟨S64x512x1, .f32⟩
  | 41 => ⟨S64x512, .f32⟩
  | 42 => ⟨S_, .f32⟩
  | 43 => ⟨S64, .f32⟩
  | 44 => ⟨S_, .f32⟩
  | 45 => ⟨S64, .f32⟩
  | 46 => ⟨S64, .f32⟩
  | 47 => ⟨S64x1, .f32⟩
  | 48 => ⟨S64x512, .f32⟩
  | 49 => ⟨S64x512, .f32⟩
  | 50 => ⟨S64x512, .f32⟩
  | 51 => ⟨S_, .f32⟩
  | 52 => ⟨S64, .f32⟩
  | 53 => ⟨S64x1, .f32⟩
  | 54 => ⟨S64x512, .f32⟩
  | 55 => ⟨S64x512, .f32⟩
  | 56 => ⟨S64x128, .f32⟩
  | 57 => ⟨S_, .f32⟩
  | 58 => ⟨S64, .f32⟩
  | 59 => ⟨S64x1, .f32⟩
  | 60 => ⟨S_, .f32⟩
  | 61 => ⟨S64x1, .f32⟩
  | 62 => ⟨S64x1, .f32⟩
  | 63 => ⟨S_, .i32⟩
  | 64 => ⟨S_, .f32⟩
  | 65 => ⟨S64, .f32⟩
  | 66 => ⟨S64x1, .f32⟩
  | 67 => ⟨S_, .f32⟩
  | 68 => ⟨S64x1, .f32⟩
  | 69 => ⟨S64x1, .f32⟩
  | 70 => ⟨S64x128, .f32⟩
  | 71 => ⟨S64x128, .f32⟩
  | 72 => ⟨S64x128, .f32⟩
  | 73 => ⟨S_, .f32⟩
  | 74 => ⟨S_, .f32⟩
  | 75 => ⟨S_, .f32⟩
  | 76 => ⟨S_, .f32⟩
  | 77 => ⟨S64, .f32⟩
  | 78 => ⟨S64x1, .f32⟩
  | 79 => ⟨S64x1, .f32⟩
  | 80 => ⟨S64x1, .f32⟩
  | 81 => ⟨S_, .f32⟩
  | 82 => ⟨S_, .i1⟩
  | 83 => ⟨S_, .f32⟩
  | 84 => ⟨S_, .f32⟩
  | 85 => ⟨S64x1, .f32⟩
  | 86 => ⟨S64x1, .f32⟩
  | 87 => ⟨S64x128, .f32⟩
  | 88 => ⟨S64x128, .f32⟩
  | 89 => ⟨S_, .f32⟩
  | 90 => ⟨S64x1, .f32⟩
  | 91 => ⟨S64x1, .f32⟩
  | 92 => ⟨S64x1, .f32⟩
  | 93 => ⟨S64x128, .f32⟩
  | 94 => ⟨S64x128, .f32⟩
  | 95 => ⟨S1x128, .f32⟩
  | 96 => ⟨S64x128, .f32⟩
  | 97 => ⟨S64x128, .f32⟩
  | 98 => ⟨S1x128, .f32⟩
  | 99 => ⟨S64x128, .f32⟩
  | 100 => ⟨S64x128, .f32⟩
  | 101 => ⟨S64x256, .f32⟩
  | 102 => ⟨S1x256, .f32⟩
  | 103 => ⟨S64x256, .f32⟩
  | 104 => ⟨S64x256, .f32⟩
  | 105 => ⟨S64x1x256, .f32⟩
  | _ => ⟨S64x2048, .f32⟩

abbrev hbmTy (i : Nat) : BufTy := match i / 128 with
  | 0 => hbmTy0_0 i
  | 1 => hbmTy0_1 i
  | _ => ⟨S64x2048, .f32⟩

abbrev bufTy : (tb : Table) → Fin (tcTables nBuf tb) → BufTy
  | .hbm, ⟨i, _⟩ => hbmTy i
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call0_cst : Ref sig .tc := ⟨.hbm, 40, rfl⟩
abbrev main_call0_v0 : Ref sig .tc := ⟨.hbm, 41, rfl⟩
abbrev main_v20 : Ref sig .tc := ⟨.hbm, 42, rfl⟩
abbrev main_v21 : Ref sig .tc := ⟨.hbm, 43, rfl⟩
abbrev main_cst_0 : Ref sig .tc := ⟨.hbm, 44, rfl⟩
abbrev main_v22 : Ref sig .tc := ⟨.hbm, 45, rfl⟩
abbrev main_cst_1 : Ref sig .tc := ⟨.hbm, 46, rfl⟩
abbrev main_v23 : Ref sig .tc := ⟨.hbm, 47, rfl⟩
abbrev main_v24 : Ref sig .tc := ⟨.hbm, 48, rfl⟩
abbrev main_cst_2 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call1_cst : Ref sig .tc := ⟨.hbm, 69, rfl⟩
abbrev main_call1_v0 : Ref sig .tc := ⟨.hbm, 70, rfl⟩
abbrev main_v44 : Ref sig .tc := ⟨.hbm, 71, rfl⟩
abbrev main_v45 : Ref sig .tc := ⟨.hbm, 72, rfl⟩
abbrev main_cst_3 : Ref sig .tc := ⟨.hbm, 73, rfl⟩
abbrev main_v46 : Ref sig .tc := ⟨.hbm, 74, rfl⟩
abbrev main_cst_4 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_5 : Ref sig .tc := ⟨.hbm, 89, rfl⟩
abbrev main_v59 : Ref sig .tc := ⟨.hbm, 90, rfl⟩
abbrev main_v60 : Ref sig .tc := ⟨.hbm, 91, rfl⟩
abbrev main_cst_6 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_7 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_8 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_9 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_10 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_11 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_12 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_13 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_14 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_cst_15 : Ref sig .tc := ⟨.hbm, 170, rfl⟩
abbrev main_v130 : Ref sig .tc := ⟨.hbm, 171, rfl⟩
abbrev main_cst_16 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_17 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_cst_18 : Ref sig .tc := ⟨.hbm, 185, rfl⟩
abbrev main_v142 : Ref sig .tc := ⟨.hbm, 186, rfl⟩
abbrev main_v143 : Ref sig .tc := ⟨.hbm, 187, rfl⟩
abbrev main_cst_19 : Ref sig .tc := ⟨.hbm, 188, rfl⟩
abbrev main_v144 : Ref sig .tc := ⟨.hbm, 189, rfl⟩
abbrev main_v145 : Ref sig .tc := ⟨.hbm, 190, rfl⟩
abbrev main_c_20 : Ref sig .tc := ⟨.hbm, 191, rfl⟩
abbrev main_call2_cst : Ref sig .tc := ⟨.hbm, 192, rfl⟩
abbrev main_call2_v0 : Ref sig .tc := ⟨.hbm, 193, rfl⟩
abbrev main_call2_v1 : Ref sig .tc := ⟨.hbm, 194, rfl⟩
abbrev main_call2_cst_0 : Ref sig .tc := ⟨.hbm, 195, rfl⟩
abbrev main_call2_v2 : Ref sig .tc := ⟨.hbm, 196, rfl⟩
abbrev main_call2_v3 : Ref sig .tc := ⟨.hbm, 197, rfl⟩
abbrev main_call2_v4 : Ref sig .tc := ⟨.hbm, 198, rfl⟩
abbrev main_call2_v5 : Ref sig .tc := ⟨.hbm, 199, rfl⟩
abbrev main_call2_v6 : Ref sig .tc := ⟨.hbm, 200, rfl⟩
abbrev main_call2_v7 : Ref sig .tc := ⟨.hbm, 201, rfl⟩
abbrev main_call2_cst_1 : Ref sig .tc := ⟨.hbm, 202, rfl⟩
abbrev main_call2_v8 : Ref sig .tc := ⟨.hbm, 203, rfl⟩
abbrev main_call2_cst_2 : Ref sig .tc := ⟨.hbm, 204, rfl⟩
abbrev main_call2_v9 : Ref sig .tc := ⟨.hbm, 205, rfl⟩
abbrev main_call2_v10 : Ref sig .tc := ⟨.hbm, 206, rfl⟩
abbrev main_call2_v11 : Ref sig .tc := ⟨.hbm, 207, rfl⟩
abbrev main_call2_v12 : Ref sig .tc := ⟨.hbm, 208, rfl⟩
abbrev main_call2_cst_3 : Ref sig .tc := ⟨.hbm, 209, rfl⟩
abbrev main_call2_v13 : Ref sig .tc := ⟨.hbm, 210, rfl⟩
abbrev main_call2_cst_4 : Ref sig .tc := ⟨.hbm, 211, rfl⟩
abbrev main_call2_call0_v0 : Ref sig .tc := ⟨.hbm, 212, rfl⟩
abbrev main_call2_call0_v1 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_cst_21 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩

abbrev nD : Nat := 1
abbrev τ : Topo := Topo.v7x

variable {F : FTy → Type} [FloatOps F]
-- ==== Proof.Body.lean ====
/- The kernel body of one grid point, written as a handful of vector functions that the four sequences of the block
   and the four graph layers share, and the body's generated payloads as compositions of them. -/
module

public import proofs.«01_k».proof.Proof.Gen.KernelIdeal.Frame

@[expose] public section

set_option maxRecDepth 16384

noncomputable section

namespace Cert.Work

open Cert.KernelIdeal Cert.KernelIdeal.Gen Idealize.ShloMosaic Idealize.ShloMosaic.TcCoe

/-- A vector of extended reals. -/
abbrev EV (s : Shape) := FVec Ideal s .f32

/-- The six columns of the first convolution: the four phases of a sequence, the last phase moved one row down, the
    first one row up. -/
def sixCols (v : EV S512x4) : EV S512x6 :=
  concatenate S512x6 1 [⟨S512x4, v⟩,
    ⟨S512x1, concatenate S512x1 0 [⟨S1x1, broadcast S1x1 (Scalar.ofBits .f32 0x00000000#32 : Ideal .f32)⟩,
      ⟨S511x1, extractStridedSlice S511x1 ![0, 0] (extractStridedSlice S512x1 ![0, 3] v slices_S512x4_o0_3_S512x1) slices_S512x1_o0_0_S511x1⟩] concatenates_S1x1_S511x1_S512x1_d0⟩,
    ⟨S512x1, concatenate S512x1 0 [⟨S511x1, extractStridedSlice S511x1 ![1, 0] (extractStridedSlice S512x1 ![0, 0] v slices_S512x4_o0_0_S512x1) slices_S512x1_o1_0_S511x1⟩,
      ⟨S1x1, broadcast S1x1 (Scalar.ofBits .f32 0x00000000#32 : Ideal .f32)⟩] concatenates_S511x1_S1x1_S512x1_d0⟩] concatenates_S512x4_S512x1_S512x1_S512x6_d1

/-- One phase of the first convolution: a product with six rows of weights, the bias, the positive part. -/
def phase (x : EV S512x6) (a : EV S6x128) (b : EV S1x128) : EV S512x128 :=
  maximumf (addf (matmul dot_S512x6_S6x128_S512x128_1_0_0_1_n_n none x (shapeCast S6x128 a shapeCasts_S6x128_S6x128) (constant S512x128 .f32 0x00000000#32))
    (broadcastTo S512x128 b broadcasts_S1x128_S512x128)) (broadcast S512x128 (Scalar.ofBits .f32 0x00000000#32 : Ideal .f32))

/-- Two neighbouring phases added: twice their average. -/
def phases (x : EV S512x6) (a a' : EV S6x128) (b : EV S1x128) : EV S512x128 := addf (phase x a b) (phase x a' b)

/-- The rows moved one down, a row of zeros on top. -/
def down (v : EV S512x128) : EV S512x128 :=
  concatenate S512x128 0 [⟨S1x128, broadcast S1x128 (Scalar.ofBits .f32 0x00000000#32 : Ideal .f32)⟩,
    ⟨S511x128, extractStridedSlice S511x128 ![0, 0] v slices_S512x128_o0_0_S511x128⟩] concatenates_S1x128_S511x128_S512x128_d0

/-- The rows moved one up, a row of zeros below. -/
def up (v : EV S512x128) : EV S512x128 :=
  concatenate S512x128 0 [⟨S511x128, extractStridedSlice S511x128 ![1, 0] v slices_S512x128_o1_0_S511x128⟩,
    ⟨S1x128, broadcast S1x128 (Scalar.ofBits .f32 0x00000000#32 : Ideal .f32)⟩] concatenates_S511x128_S1x128_S512x128_d0

/-- A product of the rows with one plane of weights. -/
def tap (p : EV S512x128) (w : EV S1x128x128) : EV S512x128 :=
  matmul dot_S512x128_S128x128_S512x128_1_0_0_1_n_n none p (shapeCast S128x128 w shapeCasts_S1x128x128_S128x128) (constant S512x128 .f32 0x00000000#32)

/-- The second convolution at one phase: three taps, the bias, the positive part. -/
def conv (p q r : EV S512x128) (w0 w1 w2 : EV S1x128x128) (b : EV S1x128) : EV S512x128 :=
  maximumf (addf (addf (addf (tap p w0) (tap q w1)) (tap r w2)) (broadcastTo S512x128 b broadcasts_S1x128_S512x128))
    (broadcast S512x128 (Scalar.ofBits .f32 0x00000000#32 : Ideal .f32))

/-- Both convolutions and both averages of one sequence. -/
def front (v : EV S1x512x4) (b0 b1 : EV S1x128) (a0 a1 a2 a3 : EV S6x128) (w0 w1 w2 : EV S1x128x128) : EV S512x128 :=
  let x := sixCols (shapeCast S512x4 v shapeCasts_S1x512x4_S512x4)
  let pe := phases x a0 a1 (shapeCast S1x128 b0 shapeCasts_S1x128_S1x128)
  let po := phases x a2 a3 (shapeCast S1x128 b0 shapeCasts_S1x128_S1x128)
  addf (conv (down po) pe po w0 w1 w2 (shapeCast S1x128 b1 shapeCasts_S1x128_S1x128))
    (conv pe po (up pe) w0 w1 w2 (shapeCast S1x128 b1 shapeCasts_S1x128_S1x128))

/-- Four sequences side by side. -/
def beside (p0 p1 p2 p3 : EV S512x128) : EV S512x512 :=
  concatenate S512x512 1 [⟨S512x128, p0⟩, ⟨S512x128, p1⟩, ⟨S512x128, p2⟩, ⟨S512x128, p3⟩] concatenates_S512x128_S512x128_S512x128_S512x128_S512x512_d1

/-- The rows' indices 0 to 15 as numbers. -/
def rows16 : EV S16x512 := sitofp .f32 (iota .tc S16x512 32 [0] iota_S16x512_d0_w32)

/-- The factors of the first sixteen rows. -/
def topFactor : EV S16x512 :=
  rsqrt (addf (addf (minimumf rows16 (broadcast S16x512 (Scalar.ofBits .f32 0x41700000#32 : Ideal .f32)))
    (broadcast S16x512 (Scalar.ofBits .f32 0x41700000#32 : Ideal .f32))) (broadcast S16x512 (Scalar.ofBits .f32 0x3F800000#32 : Ideal .f32)))

/-- The factors of the last sixteen rows. -/
def botFactor : EV S16x512 :=
  rsqrt (addf (addf (minimumf (subf (broadcast S16x512 (Scalar.ofBits .f32 0x43FF8000#32 : Ideal .f32))
      (addf (broadcast S16x512 (Scalar.ofBits .f32 0x43F80000#32 : Ideal .f32)) rows16)) (broadcast S16x512 (Scalar.ofBits .f32 0x41700000#32 : Ideal .f32)))
    (broadcast S16x512 (Scalar.ofBits .f32 0x41700000#32 : Ideal .f32))) (broadcast S16x512 (Scalar.ofBits .f32 0x3F800000#32 : Ideal .f32)))

/-- Every row times its factor. -/
def scaled (x : EV S512x512) (e e' : EV S16x512) : EV S512x512 :=
  concatenate S512x512 0 [⟨S16x512, mulf (extractStridedSlice S16x512 ![0, 0] x slices_S512x512_o0_0_S16x512) e⟩,
    ⟨S480x512, mulf (extractStridedSlice S480x512 ![16, 0] x slices_S512x512_o16_0_S480x512) (broadcast S480x512 (Named.named κ "inv_sqrt_31" 0x3E37EA74#32 : Ideal .f32))⟩,
    ⟨S16x512, mulf (extractStridedSlice S16x512 ![496, 0] x slices_S512x512_o496_0_S16x512) e'⟩] concatenates_S16x512_S480x512_S16x512_S512x512_d0

/-- The rows between sixteen rows of zeros on either side. -/
def padded (z : EV S512x512) : EV S544x512 :=
  concatenate S544x512 0 [⟨S16x512, broadcast S16x512 (Scalar.ofBits .f32 0x00000000#32 : Ideal .f32)⟩, ⟨S512x512, z⟩,
    ⟨S16x512, broadcast S16x512 (Scalar.ofBits .f32 0x00000000#32 : Ideal .f32)⟩] concatenates_S16x512_S512x512_S16x512_S544x512_d0

/-- Each of the four blocks of 128 rows: the strip of zeros and ones times the 160 padded rows that start with it. -/
def strips (ms : EV S128x160) (z : EV S544x512) : EV S512x512 :=
  concatenate S512x512 0 [
    ⟨S128x512, matmul dot_S128x160_S160x512_S128x512_1_0_0_1_n_n none ms (extractStridedSlice S160x512 ![0, 0] z slices_S544x512_o0_0_S160x512) (constant S128x512 .f32 0x00000000#32)⟩,
    ⟨S128x512, matmul dot_S128x160_S160x512_S128x512_1_0_0_1_n_n none ms (extractStridedSlice S160x512 ![128, 0] z slices_S544x512_o128_0_S160x512) (constant S128x512 .f32 0x00000000#32)⟩,
    ⟨S128x512, matmul dot_S128x160_S160x512_S128x512_1_0_0_1_n_n none ms (extractStridedSlice S160x512 ![256, 0] z slices_S544x512_o256_0_S160x512) (constant S128x512 .f32 0x00000000#32)⟩,
    ⟨S128x512, matmul dot_S128x160_S160x512_S128x512_1_0_0_1_n_n none ms (extractStridedSlice S160x512 ![384, 0] z slices_S544x512_o384_0_S160x512) (constant S128x512 .f32 0x00000000#32)⟩]
    concatenates_S128x512_S128x512_S128x512_S128x512_S512x512_d0

/-- The normalised sum over the neighbours. -/
def smooth (ms : EV S128x160) (x : EV S512x512) : EV S512x512 :=
  scaled (strips (shapeCast S128x160 ms shapeCasts_S128x160_S128x160) (padded (scaled x topFactor botFactor))) topFactor botFactor

/-- One sequence's columns times a layer's weights, plus its bias. -/
def dense (h : EV S512x128) (w : EV S128x128) (b : EV S1x128) : EV S512x128 :=
  addf (matmul dot_S512x128_S128x128_S512x128_1_0_0_1_n_n none h w (constant S512x128 .f32 0x00000000#32))
    (broadcastTo S512x128 (shapeCast S1x128 b shapeCasts_S1x128_S1x128) broadcasts_S1x128_S512x128)

/-- The four sequences, each through the layer's weights. -/
def denses (h : EV S512x512) (w : EV S128x128) (b : EV S1x128) : EV S512x512 :=
  beside (dense (extractStridedSlice S512x128 ![0, 0] h slices_S512x512_o0_0_S512x128) w b)
    (dense (extractStridedSlice S512x128 ![0, 128] h slices_S512x512_o0_128_S512x128) w b)
    (dense (extractStridedSlice S512x128 ![0, 256] h slices_S512x512_o0_256_S512x128) w b)
    (dense (extractStridedSlice S512x128 ![0, 384] h slices_S512x512_o0_384_S512x128) w b)

/-- The Gaussian error linear unit. -/
def gelu (h : EV S512x512) : EV S512x512 :=
  mulf (mulf (broadcast S512x512 (Scalar.ofBits .f32 0x3F000000#32 : Ideal .f32)) h)
    (addf (broadcast S512x512 (Scalar.ofBits .f32 0x3F800000#32 : Ideal .f32))
      (erf (mulf h (broadcast S512x512 (Scalar.ofBits .f32 0x3F3504F3#32 : Ideal .f32)))))

/-- One graph layer: the old value plus the new one. -/
def layer (ms : EV S128x160) (x : EV S512x512) (w : EV S128x128) (b : EV S1x128) : EV S512x512 :=
  addf x (gelu (denses (smooth ms x) w b))

/-- One sequence's columns times the attention weights. -/
def score (h : EV S512x128) (a : EV S128x128) : EV S512x128 :=
  matmul dot_S512x128_S128x128_S512x128_1_0_0_1_n_n none h a (constant S512x128 .f32 0x00000000#32)

/-- The scores of the four sequences, one copy per column. -/
def scores (x : EV S512x512) (a : EV S128x128) : EV S512x512 :=
  beside (score (extractStridedSlice S512x128 ![0, 0] x slices_S512x512_o0_0_S512x128) a)
    (score (extractStridedSlice S512x128 ![0, 128] x slices_S512x512_o0_128_S512x128) a)
    (score (extractStridedSlice S512x128 ![0, 256] x slices_S512x512_o0_256_S512x128) a)
    (score (extractStridedSlice S512x128 ![0, 384] x slices_S512x512_o0_384_S512x128) a)

/-- The scores less their column's largest, exponentiated. -/
def weights (s : EV S512x512) : EV S512x512 :=
  exp (subf s (broadcastTo S512x512 (shapeCast S1x512 (multiReduction .maximumf [0] S512 s 0xFF800000#32 reduces_S512x512_S512 (.inl rfl) rfl) shapeCasts_S512_S1x512) broadcasts_S1x512_S512x512))

/-- The sum down each column. -/
def colSum (s : EV S512x512) : EV S1x512 :=
  shapeCast S1x512 (multiReduction .add [0] S512 s 0x00000000#32 reduces_S512x512_S512 (.inl rfl) rfl) shapeCasts_S512_S1x512

/-- The rows averaged with the attention weights. -/
def pool (x : EV S512x512) (a : EV S128x128) : EV S1x512 :=
  divf (colSum (mulf (weights (scores x a)) x)) (colSum (weights (scores x a)))

/-- The mean of a row of 128. -/
def mean128 (p : EV S1x128) : EV S1x1 :=
  divf (shapeCast S1x1 (multiReduction .add [1] S1 p 0x00000000#32 reduces_S1x128_S1 (.inl rfl) rfl) shapeCasts_S1_S1x1)
    (broadcast S1x1 (Scalar.ofBits .f32 0x43000000#32 : Ideal .f32))

/-- The row less its mean. -/
def centred (p : EV S1x128) : EV S1x128 := subf p (broadcastTo S1x128 (mean128 p) broadcasts_S1x1_S1x128)

/-- The row normalised to mean zero and variance one. -/
def normed (p : EV S1x128) : EV S1x128 :=
  mulf (centred p) (broadcastTo S1x128 (rsqrt (addf (mean128 (mulf (centred p) (centred p)))
    (broadcast S1x1 (Scalar.ofBits .f32 0x358637BD#32 : Ideal .f32)))) broadcasts_S1x1_S1x128)

/-- The classifier on one sequence's pooled row. -/
def head (p : EV S1x128) (g b : EV S1x128) (w : EV S128x256) (c : EV S1x256) : EV S1x1x256 :=
  shapeCast S1x1x256 (addf (matmul dot_S1x128_S128x256_S1x256_1_0_0_1_n_n none
      (addf (mulf (normed p) (shapeCast S1x128 g shapeCasts_S1x128_S1x128)) (shapeCast S1x128 b shapeCasts_S1x128_S1x128)) w (constant S1x256 .f32 0x00000000#32))
    (shapeCast S1x256 c shapeCasts_S1x256_S1x256)) shapeCasts_S1x256_S1x1x256

section
variable (x0 : Vec Ideal S4x512x4 .f32) (x1 : Vec Ideal S6x512 .f32) (x2 : Vec Ideal S128x160 .f32) (x3 : Vec Ideal S1x128 .f32)
  (x4 : Vec Ideal S3x128x128 .f32) (x5 : Vec Ideal S1x128 .f32) (x6 : Vec Ideal S128x128 .f32) (x7 : Vec Ideal S1x128 .f32)
  (x8 : Vec Ideal S128x128 .f32) (x9 : Vec Ideal S1x128 .f32) (x10 : Vec Ideal S128x128 .f32) (x11 : Vec Ideal S1x128 .f32)
  (x12 : Vec Ideal S128x128 .f32) (x13 : Vec Ideal S1x128 .f32) (x14 : Vec Ideal S128x128 .f32) (x15 x16 : Vec Ideal S1x128 .f32)
  (x17 : Vec Ideal S128x256 .f32) (x18 : Vec Ideal S1x256 .f32)

/-- The front of the sequence whose block of the input starts where `r` says. -/
abbrev frontAt (v : EV S1x512x4) : EV S512x128 :=
  front v (View.ld x3 r0_0) (View.ld x5 r0_0) (View.ld x1 r0_2) (View.ld x1 r0_3) (View.ld x1 r0_4) (View.ld x1 r0_5)
    (View.ld x4 r0_6) (View.ld x4 r0_7) (View.ld x4 r0_8)

/-- The four sequences after the convolutions. -/
abbrev start : EV S512x512 :=
  beside (frontAt x1 x3 x4 x5 (View.ld x0 r0_1)) (frontAt x1 x3 x4 x5 (View.ld x0 r0_9))
    (frontAt x1 x3 x4 x5 (View.ld x0 r0_10)) (frontAt x1 x3 x4 x5 (View.ld x0 r0_11))

/-- The generated value at the layers' entry is the four fronts side by side. -/
theorem pay82_eq : k0_pay82 x0 x1 x2 x3 x4 x5 x6 x7 x8 x9 x10 x11 x12 x13 x14 x15 x16 x17 x18 = start x0 x1 x3 x4 x5 := rfl

/-- The rows after one layer. -/
abbrev after1 : EV S512x512 := layer (View.ld x2 r0_12) (start x0 x1 x3 x4 x5) (View.ld x6 r0_13) (View.ld x7 r0_0)
/-- The rows after two layers. -/
abbrev after2 : EV S512x512 := layer (View.ld x2 r0_12) (after1 x0 x1 x2 x3 x4 x5 x6 x7) (View.ld x8 r0_13) (View.ld x9 r0_0)
/-- The rows after three layers. -/
abbrev after3 : EV S512x512 := layer (View.ld x2 r0_12) (after2 x0 x1 x2 x3 x4 x5 x6 x7 x8 x9) (View.ld x10 r0_13) (View.ld x11 r0_0)
/-- The rows after four layers. -/
abbrev after4 : EV S512x512 := layer (View.ld x2 r0_12) (after3 x0 x1 x2 x3 x4 x5 x6 x7 x8 x9 x10 x11) (View.ld x12 r0_13) (View.ld x13 r0_0)

/-- The first layer's neighbour sums, as generated. -/
theorem pay88_eq : k0_pay88 x0 x1 x2 x3 x4 x5 x6 x7 x8 x9 x10 x11 x12 x13 x14 x15 x16 x17 x18 = smooth (View.ld x2 r0_12) (start x0 x1 x3 x4 x5) := by
  unfold k0_pay88; rw [pay82_eq]; rfl

/-- The generated value after the first layer. -/
theorem pay93_eq : k0_pay93 x0 x1 x2 x3 x4 x5 x6 x7 x8 x9 x10 x11 x12 x13 x14 x15 x16 x17 x18 = after1 x0 x1 x2 x3 x4 x5 x6 x7 := by
  unfold k0_pay93 after1; rw [pay88_eq, show k0_pay90 x0 x1 x2 x3 x4 x5 x6 x7 x8 x9 x10 x11 x12 x13 x14 x15 x16 x17 x18 = dense (extractStridedSlice S512x128 ![0, 0] (k0_pay88 x0 x1 x2 x3 x4 x5 x6 x7 x8 x9 x10 x11 x12 x13 x14 x15 x16 x17 x18) slices_S512x512_o0_0_S512x128) (View.ld x6 r0_13) (View.ld x7 r0_0) from rfl,
    show k0_pay91 x0 x1 x2 x3 x4 x5 x6 x7 x8 x9 x10 x11 x12 x13 x14 x15 x16 x17 x18 = matmul dot_S512x128_S128x128_S512x128_1_0_0_1_n_n none (extractStridedSlice S512x128 ![0, 128] (k0_pay88 x0 x1 x2 x3 x4 x5 x6 x7 x8 x9 x10 x11 x12 x13 x14 x15 x16 x17 x18) slices_S512x512_o0_128_S512x128) (View.ld x6 r0_13) (constant S512x128 .f32 0x00000000#32) from rfl, pay88_eq, pay82_eq]
  generalize start x0 x1 x3 x4 x5 = s
  rfl

/-- The second layer's neighbour sums, as generated. -/
theorem pay94_eq : k0_pay94 x0 x1 x2 x3 x4 x5 x6 x7 x8 x9 x10 x11 x12 x13 x14 x15 x16 x17 x18 = smooth (View.ld x2 r0_12) (after1 x0 x1 x2 x3 x4 x5 x6 x7) := by
  rw [← pay93_eq]
  show smooth (View.ld x2 r0_12) (k0_pay93 x0 x1 x2 x3 x4 x5 x6 x7 x8 x9 x10 x11 x12 x13 x14 x15 x16 x17 x18) = _
  rfl

/-- The generated value after the second layer. -/
theorem pay95_eq : k0_pay95 x0 x1 x2 x3 x4 x5 x6 x7 x8 x9 x10 x11 x12 x13 x14 x15 x16 x17 x18 = after2 x0 x1 x2 x3 x4 x5 x6 x7 x8 x9 := by
  unfold k0_pay95 after2; rw [pay93_eq, pay94_eq]
  generalize after1 x0 x1 x2 x3 x4 x5 x6 x7 = s
  rfl

/-- The third layer's sums over the strips, as generated. -/
theorem pay96_eq : k0_pay96 x0 x1 x2 x3 x4 x5 x6 x7 x8 x9 x10 x11 x12 x13 x14 x15 x16 x17 x18 = strips (shapeCast S128x160 (View.ld x2 r0_12) shapeCasts_S128x160_S128x160)
    (padded (scaled (after2 x0 x1 x2 x3 x4 x5 x6 x7 x8 x9) topFactor botFactor)) := by
  unfold k0_pay96 after2; rw [pay93_eq, pay94_eq]
  generalize after1 x0 x1 x2 x3 x4 x5 x6 x7 = s
  rfl

/-- Their first sixteen rows, as generated. -/
theorem pay97_eq : k0_pay97 x0 x1 x2 x3 x4 x5 x6 x7 x8 x9 x10 x11 x12 x13 x14 x15 x16 x17 x18 = extractStridedSlice S16x512 ![0, 0] (k0_pay96 x0 x1 x2 x3 x4 x5 x6 x7 x8 x9 x10 x11 x12 x13 x14 x15 x16 x17 x18) slices_S512x512_o0_0_S16x512 := rfl

/-- The generated value after the fourth layer. -/
theorem pay98_eq : k0_pay98 x0 x1 x2 x3 x4 x5 x6 x7 x8 x9 x10 x11 x12 x13 x14 x15 x16 x17 x18 = after4 x0 x1 x2 x3 x4 x5 x6 x7 x8 x9 x10 x11 x12 x13 := by
  unfold k0_pay98 after4 after3; rw [pay97_eq, pay96_eq, pay95_eq]
  generalize after2 x0 x1 x2 x3 x4 x5 x6 x7 x8 x9 = s
  rfl

/-- The pooled rows of the four sequences. -/
abbrev pooled : EV S1x512 := pool (after4 x0 x1 x2 x3 x4 x5 x6 x7 x8 x9 x10 x11 x12 x13) (View.ld x14 r0_13)

/-- The generated pooled rows. -/
theorem pay99_eq : k0_pay99 x0 x1 x2 x3 x4 x5 x6 x7 x8 x9 x10 x11 x12 x13 x14 x15 x16 x17 x18 = pooled x0 x1 x2 x3 x4 x5 x6 x7 x8 x9 x10 x11 x12 x13 x14 := by
  unfold k0_pay99 pooled; rw [pay98_eq]
  generalize after4 x0 x1 x2 x3 x4 x5 x6 x7 x8 x9 x10 x11 x12 x13 = s
  rfl

/-- The classifier on the columns of one sequence. -/
abbrev headAt (p : EV S1x128) : EV S1x1x256 := head p (View.ld x15 r0_0) (View.ld x16 r0_0) (View.ld x17 r0_14) (View.ld x18 r0_15)

/-- What a grid point writes: the classifier on each of its four sequences. -/
theorem out_eq : out0_19 x0 x1 x2 x3 x4 x5 x6 x7 x8 x9 x10 x11 x12 x13 x14 x15 x16 x17 x18 =
    View.canon [⟨r0_19, headAt x15 x16 x17 x18 (extractStridedSlice S1x128 ![0, 384] (pooled x0 x1 x2 x3 x4 x5 x6 x7 x8 x9 x10 x11 x12 x13 x14) slices_S1x512_o0_384_S1x128)⟩,
      ⟨r0_18, headAt x15 x16 x17 x18 (extractStridedSlice S1x128 ![0, 256] (pooled x0 x1 x2 x3 x4 x5 x6 x7 x8 x9 x10 x11 x12 x13 x14) slices_S1x512_o0_256_S1x128)⟩,
      ⟨r0_17, headAt x15 x16 x17 x18 (extractStridedSlice S1x128 ![0, 128] (pooled x0 x1 x2 x3 x4 x5 x6 x7 x8 x9 x10 x11 x12 x13 x14) slices_S1x512_o0_128_S1x128)⟩,
      ⟨r0_16, headAt x15 x16 x17 x18 (extractStridedSlice S1x128 ![0, 0] (pooled x0 x1 x2 x3 x4 x5 x6 x7 x8 x9 x10 x11 x12 x13 x14) slices_S1x512_o0_0_S1x128)⟩] := by
  unfold out0_19
  rw [pay99_eq, pay98_eq]
  unfold pooled
  generalize after4 x0 x1 x2 x3 x4 x5 x6 x7 x8 x9 x10 x11 x12 x13 = s
  rfl

end

end Cert.Work

end
-- ==== Proof.Whole.lean ====
/- The blocks of the kernel's windows at a grid point, in terms of the operands. -/
module

public import proofs.«01_k».proof.Proof.Body
public import Idealize.ShloMosaic.Lib.Pointwise
public import Idealize.ShloMosaic.Lib.Pipeline.ValueKit
public import Idealize.ShloMosaic.Lib.Claim

@[expose] public section

set_option maxRecDepth 16384
set_option maxHeartbeats 8000000

noncomputable section

namespace Cert.Work

open Cert.KernelIdeal Cert.KernelIdeal.Gen Idealize.ShloMosaic Idealize.ShloMosaic.TcCoe Idealize.SL.Sem

variable (m : (ℓ : Loc nD τ sig) → Buf (Elt Ideal) ℓ)

/-- The windows' positions: the first and the last move with the grid point, the others stay. -/
theorem idx : ∀ t : Fin cfg0.N, win0_0.index t = ![t.val, 0, 0] ∧ win0_1.index t = ![0, 0] ∧ win0_2.index t = ![0, 0] ∧ win0_3.index t = ![0, 0]
    ∧ win0_4.index t = ![0, 0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0] ∧ win0_17.index t = ![0, 0] ∧ win0_18.index t = ![0, 0]
    ∧ win0_19.index t = ![t.val, 0, 0] :=
  (by decide +kernel : ∀ t : Fin grid0.N, _)

/-- The blocks of the operands that stay are the operands. -/
theorem whole (c : Dev nD) (t : Fin cfg0.N) :
    (iblk m c 1 t : EV S6x512) = V m c main_v20 ∧ (iblk m c 2 t : EV S128x160) = V m c main_v39 ∧ (iblk m c 3 t : EV S1x128) = V m c main_v40
    ∧ (iblk m c 4 t : EV S3x128x128) = V m c main_v42 ∧ (iblk m c 5 t : EV S1x128) = V m c main_v45
    ∧ (iblk m c 6 t : EV S128x128) = V m c main_arg5 ∧ (iblk m c 7 t : EV S1x128) = V m c main_v46
    ∧ (iblk m c 8 t : EV S128x128) = V m c main_arg7 ∧ (iblk m c 9 t : EV S1x128) = V m c main_v47
    ∧ (iblk m c 10 t : EV S128x128) = V m c main_arg9 ∧ (iblk m c 11 t : EV S1x128) = V m c main_v48
    ∧ (iblk m c 12 t : EV S128x128) = V m c main_arg11 ∧ (iblk m c 13 t : EV S1x128) = V m c main_v49
    ∧ (iblk m c 14 t : EV S128x128) = V m c main_v23 ∧ (iblk m c 15 t : EV S1x128) = V m c main_v50
    ∧ (iblk m c 16 t : EV S1x128) = V m c main_v51 ∧ (iblk m c 17 t : EV S128x256) = V m c main_arg17
    ∧ (iblk m c 18 t : EV S1x256) = V m c main_v52 := by
  refine ⟨?_, ?_, ?_, ?_, ?_, ?_, ?_, ?_, ?_, ?_, ?_, ?_, ?_, ?_, ?_, ?_, ?_, ?_⟩ <;> blk_ext! [iblk, idx t]

/-- The sequence at place `e` of grid point `t`. -/
abbrev seqOf (t : Fin cfg0.N) (e : Fin 4) : Fin 64 :=
  ⟨4 * t.val + e.val, by have := t.isLt; have := N_0; change cfg0.N = 16 at this; omega⟩

/-- The block of sequences. -/
theorem block0 (c : Dev nD) (t : Fin cfg0.N) (e : Fin 4) (i : Fin 512) (k : Fin 4) :
    iblk m c 0 t (ix3 e i k) = m ((c : Thread nD τ).loc main_arg0) (ix2 (seqOf t e) ⟨4 * i.val + k.val, by omega⟩) := by
  blk_point [iblk, V, idx t]

end Cert.Work

end
-- ==== Proof.Spec.lean ====
/- The mathematics of the classifier over the real numbers, one sequence at a time: two convolutions with their averages,
   four layers over the graph of neighbouring rows, the attention average, the normalisation. Both programs are shown
   to compute these functions; the lemmas at the end are the facts about them that the two shapes of the sums need. -/
module

public import Idealize.ShloMosaic.PureOps.Ideal
public import Idealize.ShloMosaic.PureOps.Ideal.Laws
public import Mathlib.Analysis.SpecialFunctions.Pow.Real
public import Mathlib.Analysis.SpecialFunctions.Exp

@[expose] public section

noncomputable section

namespace Cert.Work

open Idealize.ShloMosaic

/-- A finite sum of real numbers is the same sum taken among the extended reals. -/
@[norm_cast] theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The larger of two real numbers is the same among the extended reals. -/
@[norm_cast] theorem coe_max (a b : ℝ) : ((max a b : ℝ) : EReal) = max (a : EReal) (b : EReal) :=
  EReal.coe_strictMono.monotone.map_max

/-- The smaller of two real numbers is the same among the extended reals. -/
@[norm_cast] theorem coe_min (a b : ℝ) : ((min a b : ℝ) : EReal) = min (a : EReal) (b : EReal) :=
  EReal.coe_strictMono.monotone.map_min

/-- The largest of a nonempty family of real numbers is a real number. -/
theorem fold_max_coe {ι : Type*} [Fintype ι] [Nonempty ι] (f : ι → ℝ) :
    ∃ M : ℝ, Finset.fold max (⊥ : EReal) (fun k => (f k : EReal)) Finset.univ = (M : EReal) := by
  classical
  have : ∀ s : Finset ι, s.Nonempty → ∃ M : ℝ, Finset.fold max (⊥ : EReal) (fun k => (f k : EReal)) s = (M : EReal) := by
    intro s hs
    induction hs using Finset.Nonempty.cons_induction with
    | singleton a => exact ⟨f a, by simp⟩
    | cons a s h _ ih =>
      obtain ⟨M, hM⟩ := ih
      exact ⟨max (f a) M, by rw [Finset.fold_cons, hM, coe_max]⟩
  exact this _ Finset.univ_nonempty

/-- A row of numbers with a zero in front and zeros behind. -/
def pad (n : ℕ) (f : Fin n → ℝ) (k : ℕ) : ℝ := if h : 1 ≤ k ∧ k - 1 < n then f ⟨k - 1, h.2⟩ else 0

/-- The first convolution of width three over a sequence of 2048 numbers, with its positive part. -/
def conv0 (s : Fin 2048 → ℝ) (w : Fin 3 → Fin 128 → ℝ) (b : Fin 128 → ℝ) (l : Fin 2048) (d : Fin 128) : ℝ :=
  max (pad 2048 s l * w 0 d + pad 2048 s (l + 1) * w 1 d + pad 2048 s (l + 2) * w 2 d + b d) 0

/-- The averages of two neighbouring rows. -/
def halves (n : ℕ) (f : Fin (2 * n) → Fin 128 → ℝ) (i : Fin n) (d : Fin 128) : ℝ :=
  (f ⟨2 * i.val, by omega⟩ d + f ⟨2 * i.val + 1, by omega⟩ d) / 2

/-- The second convolution of width three over 1024 rows of 128 numbers, with its positive part. -/
def conv1 (x : Fin 1024 → Fin 128 → ℝ) (w : Fin 3 → Fin 128 → Fin 128 → ℝ) (b : Fin 128 → ℝ) (l : Fin 1024) (d : Fin 128) : ℝ :=
  max (∑ c, pad 1024 (fun i => x i c) l * w 0 c d + ∑ c, pad 1024 (fun i => x i c) (l + 1) * w 1 c d
    + ∑ c, pad 1024 (fun i => x i c) (l + 2) * w 2 c d + b d) 0

/-- The rows that enter the graph layers. -/
def rows0 (s : Fin 2048 → ℝ) (w : Fin 3 → Fin 128 → ℝ) (b : Fin 128 → ℝ) (w' : Fin 3 → Fin 128 → Fin 128 → ℝ) (b' : Fin 128 → ℝ) :
    Fin 512 → Fin 128 → ℝ :=
  halves 512 (conv1 (halves 1024 (conv0 s w b)) w' b')

/-- Two rows are neighbours when they are at most fifteen apart. -/
abbrev near (i j : ℕ) : Prop := i ≤ j + 15 ∧ j ≤ i + 15

/-- The number of neighbours of a row. -/
def deg (i : Fin 512) : ℝ := ∑ j : Fin 512, if near i j then 1 else 0

/-- The reciprocal root of the number of neighbours. -/
def fac (i : Fin 512) : ℝ := (√(deg i))⁻¹

/-- The entries of the normalised graph. -/
def adj (i j : Fin 512) : ℝ := (if near i j then 1 else 0) * fac i * fac j

/-- The error function. -/
def erfR (r : ℝ) : ℝ := 2 / √Real.pi * ∫ t in (0 : ℝ)..r, Real.exp (-t ^ 2)

/-- The Gaussian error linear unit, with the factor `c` in its argument. -/
def geluR (c h : ℝ) : ℝ := 1 / 2 * h * (1 + erfR (h * c))

/-- One graph layer. -/
def layerR (c : ℝ) (w : Fin 128 → Fin 128 → ℝ) (b : Fin 128 → ℝ) (x : Fin 512 → Fin 128 → ℝ) (i : Fin 512) (d : Fin 128) : ℝ :=
  x i d + geluR c (∑ k, (∑ j, adj i j * x j k) * w k d + b d)

/-- The attention score of each row, less a constant. -/
def scoreR (x : Fin 512 → Fin 128 → ℝ) (a : Fin 128 → ℝ) (i : Fin 512) : ℝ := ∑ d, x i d * a d

/-- The average of the rows with weights `exp s`. -/
def pooledR (x : Fin 512 → Fin 128 → ℝ) (s : Fin 512 → ℝ) (d : Fin 128) : ℝ :=
  (∑ i, Real.exp (s i) * x i d) / ∑ i, Real.exp (s i)

/-- The mean of 128 numbers. -/
def meanR (p : Fin 128 → ℝ) : ℝ := (∑ d, p d) / 128

/-- The numbers brought to mean zero and variance one, `ε` guarding the root. -/
def normR (ε : ℝ) (p : Fin 128 → ℝ) (d : Fin 128) : ℝ :=
  (p d - meanR p) * (√(meanR (fun e => (p e - meanR p) * (p e - meanR p)) + ε))⁻¹

/-- The sum of the entries whose index lies in a window, over all entries and over the window. -/
theorem sum_window (n a l : ℕ) (h : a + l ≤ n) (g : ℕ → ℝ) :
    (∑ k ∈ Finset.range n, if a ≤ k ∧ k < a + l then g k else 0) = ∑ u ∈ Finset.range l, g (a + u) := by
  rw [← Finset.sum_filter, show (Finset.range n).filter (fun k => a ≤ k ∧ k < a + l) = Finset.Ico a (a + l) by
    ext k; simp; omega, Finset.sum_Ico_eq_sum_range, Nat.add_sub_cancel_left]

/-- Rows between sixteen zeros on either side, at an index of the longer row. -/
def zeroPad (z : Fin 512 → ℝ) (p : ℕ) : ℝ := if h : 16 ≤ p ∧ p - 16 < 512 then z ⟨p - 16, h.2⟩ else 0

/-- A strip of 160 padded rows, of which the 31 behind row `r` are added, is the sum over the neighbours. -/
theorem strip_sum (z : Fin 512 → ℝ) (i : Fin 512) (q r : ℕ) (hi : i.val = q + r) (hr : r < 128) :
    (∑ k : Fin 160, (if r + 1 ≤ k.val ∧ k.val < r + 1 + 31 then 1 else 0) * zeroPad z (q + k.val))
      = ∑ j : Fin 512, if near i j then z j else 0 := by
  have hl : (∑ k : Fin 160, (if r + 1 ≤ k.val ∧ k.val < r + 1 + 31 then 1 else 0) * zeroPad z (q + k.val))
      = ∑ u ∈ Finset.range 31, zeroPad z (i + 1 + u) := by
    rw [Fin.sum_univ_eq_sum_range (fun k => (if r + 1 ≤ k ∧ k < r + 1 + 31 then (1 : ℝ) else 0) * zeroPad z (q + k)) 160]
    simp only [ite_mul, one_mul, zero_mul]
    rw [sum_window 160 (r + 1) 31 (by omega) (fun k => zeroPad z (q + k))]
    exact Finset.sum_congr rfl fun u _ => congrArg _ (by omega)
  have hr' : (∑ u ∈ Finset.range 31, zeroPad z (i + 1 + u)) = ∑ p ∈ Finset.range (16 + 512 + 16), if i.val + 1 ≤ p ∧ p < i.val + 1 + 31 then zeroPad z p else 0 :=
    (sum_window _ (i + 1) 31 (by omega) (zeroPad z)).symm
  rw [hl, hr', Finset.sum_range_add, Finset.sum_range_add, Finset.sum_eq_zero (s := Finset.range 16), zero_add,
    Finset.sum_eq_zero (s := Finset.range 16), add_zero, Finset.sum_range]
  · refine Finset.sum_congr rfl fun j _ => ?_
    have : zeroPad z (16 + j.val) = z j := by
      unfold zeroPad; rw [dif_pos ⟨by omega, by omega⟩]; exact congrArg z (Fin.ext (by simp))
    rw [this]
    exact if_congr (by omega) rfl rfl
  · intro p _
    rw [zeroPad, dif_neg (by omega), ite_self]
  · intro p hp
    have := Finset.mem_range.1 hp
    rw [zeroPad, dif_neg (by omega), ite_self]

/-- How many neighbours a row has: fifteen on either side, fewer near the ends, and itself. -/
theorem deg_eq (i : Fin 512) : deg i = ((min i.val 15 + min (511 - i.val) 15 + 1 : ℕ) : ℝ) := by
  unfold deg
  rw [Fin.sum_univ_eq_sum_range (fun j => if near i j then (1 : ℝ) else 0) 512, Finset.sum_boole,
    show (Finset.range 512).filter (fun j => near i j) = Finset.Icc (i.val - 15) (min (i.val + 15) 511) by
      ext k; simp only [Finset.mem_filter, Finset.mem_range, Finset.mem_Icc]; omega, Nat.card_Icc]
  congr 1; omega

/-- Every row has a neighbour. -/
theorem deg_pos (i : Fin 512) : 0 < deg i := by rw [deg_eq]; positivity

/-- A row's sum over the graph: the row's factor times the sum of its neighbours, each with its own factor. -/
theorem adj_sum (x : Fin 512 → ℝ) (i : Fin 512) :
    (∑ j, adj i j * x j) = (∑ j : Fin 512, if near i j then x j * fac j else 0) * fac i := by
  rw [Finset.sum_mul]
  refine Finset.sum_congr rfl fun j _ => ?_
  unfold adj
  split_ifs <;> ring

/-- The attention average does not change when every score moves by the same amount. -/
theorem pooledR_shift (x : Fin 512 → Fin 128 → ℝ) (s : Fin 512 → ℝ) (r : ℝ) (d : Fin 128) :
    pooledR x (fun i => s i + r) d = pooledR x s d := by
  unfold pooledR
  simp only [Real.exp_add, mul_right_comm _ (Real.exp r), ← Finset.sum_mul]
  exact mul_div_mul_right _ _ (Real.exp_ne_zero r)

/-- Weights are positive, so is their sum. -/
theorem sum_exp_pos (s : Fin 512 → ℝ) : 0 < ∑ i, Real.exp (s i) :=
  Finset.sum_pos (fun i _ => Real.exp_pos _) Finset.univ_nonempty

end Cert.Work

end
-- ==== Proof.Front.lean ====
/- The convolutions of one sequence, read at an index: over the reals the kernel's phases are the two convolutions with
   their averages, the halves and quarters of the averages moved into the second convolution's weights. -/
module

public import proofs.«01_k».proof.Proof.Body
public import proofs.«01_k».proof.Proof.Spec
public import Idealize.ShloMosaic.Lib.Pointwise

@[expose] public section

set_option maxRecDepth 16384
set_option maxHeartbeats 2000000

noncomputable section

namespace Cert.Work

open Cert.KernelIdeal Cert.KernelIdeal.Gen Idealize.ShloMosaic Idealize.ShloMosaic.TcCoe

/-- The weights of the first convolution by column of the input and phase of the output. -/
def taps (w : Fin 3 → Fin 128 → ℝ) (d : Fin 128) : Fin 6 → Fin 4 → ℝ :=
  ![![w 1 d, w 0 d, 0, 0], ![w 2 d, w 1 d, w 0 d, 0], ![0, w 2 d, w 1 d, w 0 d], ![0, 0, w 2 d, w 1 d],
    ![w 0 d, 0, 0, 0], ![0, 0, 0, w 2 d]]

/-- Where in the padded sequence each of the six columns reads, relative to four times the row. -/
def offs : Fin 6 → ℕ := ![1, 2, 3, 4, 0, 5]

/-- The padded sequence where an entry lies. -/
theorem pad_in {n : ℕ} (f : Fin n → ℝ) (k : ℕ) (h : k < n) (j : ℕ) (hj : j = k + 1) : pad n f j = f ⟨k, h⟩ := by
  subst hj; unfold pad; rw [dif_pos ⟨by omega, by omega⟩]; rfl

/-- The padded sequence where no entry lies. -/
theorem pad_out {n : ℕ} (f : Fin n → ℝ) (j : ℕ) (h : j = 0 ∨ n < j) : pad n f j = 0 := by
  unfold pad; rw [dif_neg (by omega)]

/-- The six columns hold the padded sequence at their offsets. -/
theorem sixCols_at (v : EV S512x4) (s : Fin 2048 → ℝ) (hv : ∀ (i : Fin 512) (k : Fin 4), v (ix2 i k) = (s ⟨4 * i.val + k.val, by omega⟩ : ℝ))
    (i : Fin 512) (k : Fin 6) : sixCols v (ix2 i k) = (pad 2048 s (4 * i.val + offs k) : ℝ) := by
  pointwise [sixCols]
  simp only [hv]
  by_cases h1 : k.val < 4
  · rw [dif_pos h1, pad_in s (4 * i.val + k.val) (by omega) _ (by fin_cases k <;> simp [offs] at h1 ⊢)]
  rw [dif_neg h1]
  by_cases h2 : k.val - 4 < 1
  · have hk : offs k = 0 := by fin_cases k <;> simp [offs] at h1 h2 ⊢
    rw [dif_pos h2, hk]
    by_cases h3 : i.val < 1
    · rw [dif_pos h3]
      exact EReal.coe_zero.symm.trans (congrArg Real.toEReal (pad_out s (4 * i.val + 0) (by omega)).symm)
    · refine (dif_neg h3).trans ?_
      have e := pad_in s (4 * (i.val - 1) + 3) (by omega) (4 * i.val + 0) (by omega)
      refine congrArg Real.toEReal (Eq.trans ?_ e.symm)
      exact congrArg s (Fin.ext (show 4 * (i.val - 1) + (3 + (k.val - 4)) = 4 * (i.val - 1) + 3 by omega))
  · have hk : offs k = 5 := by fin_cases k <;> simp [offs] at h1 h2 ⊢
    rw [hk]
    refine (dif_neg h2).trans ?_
    by_cases h3 : i.val < 511
    · rw [dif_pos h3]
      have e := pad_in s (4 * (1 + i.val)) (by omega) (4 * i.val + 5) (by omega)
      refine congrArg Real.toEReal (Eq.trans ?_ e.symm)
      exact congrArg s (Fin.ext (show 4 * (1 + i.val) + (k.val - 4 - 1) = 4 * (1 + i.val) by omega))
    · rw [dif_neg h3]
      exact EReal.coe_zero.symm.trans (congrArg Real.toEReal (pad_out s (4 * i.val + 5) (by omega)).symm)

/-- One phase is the first convolution at that phase. -/
theorem phase_at (x : EV S512x6) (a : EV S6x128) (b : EV S1x128) (s : Fin 2048 → ℝ) (w : Fin 3 → Fin 128 → ℝ) (b0 : Fin 128 → ℝ) (q : Fin 4)
    (hx : ∀ (i : Fin 512) (k : Fin 6), x (ix2 i k) = (pad 2048 s (4 * i.val + offs k) : ℝ))
    (ha : ∀ (k : Fin 6) (d : Fin 128), a (ix2 k d) = (taps w d k q : ℝ)) (hb : ∀ d : Fin 128, b (ix2 0 d) = (b0 d : ℝ))
    (i : Fin 512) (d : Fin 128) : phase x a b (ix2 i d) = (conv0 s w b0 ⟨4 * i.val + q.val, by omega⟩ d : ℝ) := by
  pointwise [phase]
  simp only [hx, ha, hb, ← EReal.coe_mul, ← coe_sum, ← EReal.coe_add, ← EReal.coe_zero, ← coe_max]
  rw [conv0, Fin.sum_univ_six]
  congr 3
  fin_cases q <;> simp [taps, offs] <;> ring_nf

/-- Two phases are twice an average. -/
theorem phases_at (x : EV S512x6) (a a' : EV S6x128) (b : EV S1x128) (s : Fin 2048 → ℝ) (w : Fin 3 → Fin 128 → ℝ) (b0 : Fin 128 → ℝ) (h : ℕ) (q q' : Fin 4)
    (hq : q.val = 2 * h) (hq' : q'.val = 2 * h + 1)
    (hx : ∀ (i : Fin 512) (k : Fin 6), x (ix2 i k) = (pad 2048 s (4 * i.val + offs k) : ℝ))
    (ha : ∀ (k : Fin 6) (d : Fin 128), a (ix2 k d) = (taps w d k q : ℝ)) (ha' : ∀ (k : Fin 6) (d : Fin 128), a' (ix2 k d) = (taps w d k q' : ℝ))
    (hb : ∀ d : Fin 128, b (ix2 0 d) = (b0 d : ℝ)) (i : Fin 512) (d : Fin 128) :
    phases x a a' b (ix2 i d) = (2 * pad 1024 (fun i => halves 1024 (conv0 s w b0) i d) (2 * i.val + h + 1) : ℝ) := by
  show (phase x a b (ix2 i d) : EReal) + phase x a' b (ix2 i d) = _
  rw [phase_at x a b s w b0 q hx ha hb, phase_at x a' b s w b0 q' hx ha' hb, ← EReal.coe_add,
    pad_in _ (2 * i.val + h) (by omega) _ rfl, halves, mul_div_cancel₀ _ two_ne_zero]
  congr 3 <;> simp only [Fin.mk.injEq] <;> omega

/-- The rows moved down hold the padded rows two before. -/
theorem down_at (p : EV S512x128) (f : Fin 1024 → ℝ) (d : Fin 128)
    (hp : ∀ i : Fin 512, p (ix2 i d) = (2 * pad 1024 f (2 * i.val + 2) : ℝ)) (i : Fin 512) :
    down p (ix2 i d) = (2 * pad 1024 f (2 * i.val) : ℝ) := by
  pointwise [down]
  simp only [hp]
  by_cases h : i.val < 1
  · rw [dif_pos h, pad_out f _ (by omega), mul_zero, EReal.coe_zero]
  · rw [dif_neg h]; congr 3; omega

/-- The rows moved up hold the padded rows two after. -/
theorem up_at (p : EV S512x128) (f : Fin 1024 → ℝ) (d : Fin 128)
    (hp : ∀ i : Fin 512, p (ix2 i d) = (2 * pad 1024 f (2 * i.val + 1) : ℝ)) (i : Fin 512) :
    up p (ix2 i d) = (2 * pad 1024 f (2 * i.val + 3) : ℝ) := by
  pointwise [up]
  simp only [hp]
  by_cases h : i.val < 511
  · rw [dif_pos h]; congr 3; omega
  · rw [dif_neg h, pad_out f _ (by omega), mul_zero, EReal.coe_zero]

/-- The second convolution with the quarters and halves in its weights is half of the plain one. -/
theorem conv_at (p q r : EV S512x128) (w0 w1 w2 : EV S1x128x128) (b : EV S1x128) (x : Fin 1024 → Fin 128 → ℝ)
    (w : Fin 3 → Fin 128 → Fin 128 → ℝ) (b' : Fin 128 → ℝ) (i : Fin 512) (l : Fin 1024)
    (hp : ∀ c : Fin 128, p (ix2 i c) = (2 * pad 1024 (fun i => x i c) l : ℝ))
    (hq : ∀ c : Fin 128, q (ix2 i c) = (2 * pad 1024 (fun i => x i c) (l + 1) : ℝ))
    (hr : ∀ c : Fin 128, r (ix2 i c) = (2 * pad 1024 (fun i => x i c) (l + 2) : ℝ))
    (h0 : ∀ c d : Fin 128, w0 (ix3 0 c d) = (w 0 c d * (1 / 4) : ℝ)) (h1 : ∀ c d : Fin 128, w1 (ix3 0 c d) = (w 1 c d * (1 / 4) : ℝ))
    (h2 : ∀ c d : Fin 128, w2 (ix3 0 c d) = (w 2 c d * (1 / 4) : ℝ)) (hb : ∀ d : Fin 128, b (ix2 0 d) = (b' d * (1 / 2) : ℝ)) (d : Fin 128) :
    conv p q r w0 w1 w2 b (ix2 i d) = (conv1 x w b' l d / 2 : ℝ) := by
  pointwise [conv, tap]
  simp only [hp, hq, hr, h0, h1, h2, hb, ← EReal.coe_mul, ← coe_sum, ← EReal.coe_add, ← EReal.coe_zero, ← coe_max]
  rw [conv1, ← max_div_div_right (by norm_num : (0 : ℝ) ≤ 2), zero_div, add_div, add_div, add_div, Finset.sum_div, Finset.sum_div, Finset.sum_div]
  congr 3
  · congr 1
    · congr 1 <;> exact Finset.sum_congr rfl fun c _ => by ring
    · exact Finset.sum_congr rfl fun c _ => by ring
  · ring

/-- The front of one sequence is its rows at the layers' entry. -/
theorem front_at (v : EV S1x512x4) (b0 b1 : EV S1x128) (a0 a1 a2 a3 : EV S6x128) (w0 w1 w2 : EV S1x128x128)
    (s : Fin 2048 → ℝ) (w : Fin 3 → Fin 128 → ℝ) (b : Fin 128 → ℝ) (w' : Fin 3 → Fin 128 → Fin 128 → ℝ) (b' : Fin 128 → ℝ)
    (hv : ∀ (i : Fin 512) (k : Fin 4), v (ix3 0 i k) = (s ⟨4 * i.val + k.val, by omega⟩ : ℝ))
    (hb0 : ∀ d : Fin 128, b0 (ix2 0 d) = (b d : ℝ)) (hb1 : ∀ d : Fin 128, b1 (ix2 0 d) = (b' d * (1 / 2) : ℝ))
    (ha0 : ∀ (k : Fin 6) (d : Fin 128), a0 (ix2 k d) = (taps w d k 0 : ℝ)) (ha1 : ∀ (k : Fin 6) (d : Fin 128), a1 (ix2 k d) = (taps w d k 1 : ℝ))
    (ha2 : ∀ (k : Fin 6) (d : Fin 128), a2 (ix2 k d) = (taps w d k 2 : ℝ)) (ha3 : ∀ (k : Fin 6) (d : Fin 128), a3 (ix2 k d) = (taps w d k 3 : ℝ))
    (h0 : ∀ c d : Fin 128, w0 (ix3 0 c d) = (w' 0 c d * (1 / 4) : ℝ)) (h1 : ∀ c d : Fin 128, w1 (ix3 0 c d) = (w' 1 c d * (1 / 4) : ℝ))
    (h2 : ∀ c d : Fin 128, w2 (ix3 0 c d) = (w' 2 c d * (1 / 4) : ℝ)) (i : Fin 512) (d : Fin 128) :
    front v b0 b1 a0 a1 a2 a3 w0 w1 w2 (ix2 i d) = (rows0 s w b w' b' i d : ℝ) := by
  have hx := sixCols_at (shapeCast S512x4 v shapeCasts_S1x512x4_S512x4) s (fun i k => by pointwise []; exact hv i k)
  have hb0' : ∀ d : Fin 128, shapeCast S1x128 b0 shapeCasts_S1x128_S1x128 (ix2 0 d) = (b d : ℝ) := fun d => by pointwise []; exact hb0 d
  have hb1' : ∀ d : Fin 128, shapeCast S1x128 b1 shapeCasts_S1x128_S1x128 (ix2 0 d) = (b' d * (1 / 2) : ℝ) := fun d => by pointwise []; exact hb1 d
  have he := phases_at _ a0 a1 _ s w b 0 0 1 rfl rfl hx ha0 ha1 hb0'
  have ho := phases_at _ a2 a3 _ s w b 1 2 3 rfl rfl hx ha2 ha3 hb0'
  unfold front
  generalize phases _ a0 a1 _ = pe at he ⊢
  generalize phases _ a2 a3 _ = po at ho ⊢
  show (conv (down po) pe po w0 w1 w2 _ (ix2 i d) : EReal) + conv pe po (up pe) w0 w1 w2 _ (ix2 i d) = _
  rw [conv_at (down po) pe po w0 w1 w2 _ (halves 1024 (conv0 s w b)) w' b' i ⟨2 * i.val, by omega⟩
      (fun c => down_at po _ c (fun i => ho i c) i) (fun c => he i c) (fun c => ho i c) h0 h1 h2 hb1',
    conv_at pe po (up pe) w0 w1 w2 _ (halves 1024 (conv0 s w b)) w' b' i ⟨2 * i.val + 1, by omega⟩
      (fun c => he i c) (fun c => ho i c) (fun c => up_at pe _ c (fun i => he i c) i) h0 h1 h2 hb1', ← EReal.coe_add, ← add_div]
  rfl

end Cert.Work

end
-- ==== Proof.Consts.lean ====
/- The values of the programs' constants over the reals. -/
module

public import proofs.«01_k».proof.Proof.Spec

@[expose] public section

noncomputable section

namespace Cert.Work

open Idealize.ShloMosaic

/-- The word for one half. -/
theorem bits_half : Ideal.ofBits .f32 0x3F000000#32 = ((1 / 2 : ℝ) : EReal) := by
  simp [Ideal.ofBits, Ideal.ieee, -EReal.coe_mul]; norm_num
/-- The word for one quarter. -/
theorem bits_quarter : Ideal.ofBits .f32 0x3E800000#32 = ((1 / 4 : ℝ) : EReal) := by
  simp [Ideal.ofBits, Ideal.ieee, -EReal.coe_mul]; norm_num
/-- The word for two. -/
theorem bits_two : Ideal.ofBits .f32 0x40000000#32 = ((2 : ℝ) : EReal) := by
  simp [Ideal.ofBits, Ideal.ieee, -EReal.coe_mul]; norm_num
/-- The word for fifteen. -/
theorem bits_fifteen : Ideal.ofBits .f32 0x41700000#32 = ((15 : ℝ) : EReal) := by
  simp [Ideal.ofBits, Ideal.ieee, -EReal.coe_mul]; norm_num
/-- The word for the last row's index. -/
theorem bits_last : Ideal.ofBits .f32 0x43FF8000#32 = ((511 : ℝ) : EReal) := by
  simp [Ideal.ofBits, Ideal.ieee, -EReal.coe_mul]; norm_num
/-- The word for the index of the sixteenth row from the end. -/
theorem bits_tail : Ideal.ofBits .f32 0x43F80000#32 = ((496 : ℝ) : EReal) := by
  simp [Ideal.ofBits, Ideal.ieee, -EReal.coe_mul]; norm_num
/-- The word for the number of columns. -/
theorem bits_cols : Ideal.ofBits .f32 0x43000000#32 = ((128 : ℝ) : EReal) := by
  simp [Ideal.ofBits, Ideal.ieee, -EReal.coe_mul]; norm_num
/-- The word for minus infinity. -/
theorem bits_bot : Ideal.ofBits .f32 0xFF800000#32 = ⊥ := by
  simp [Ideal.ofBits, Ideal.ieee]
/-- The word for infinity. -/
theorem bits_top : Ideal.ofBits .f32 0x7F800000#32 = ⊤ := by
  simp [Ideal.ofBits, Ideal.ieee]

/-- The rounded millionth that guards the root of the variance. -/
def epsR : ℝ := 8796093 / 2 ^ 43
/-- The rounded root of one half in the linear unit. -/
def rootHalf : ℝ := 11863283 / 2 ^ 24

/-- The guard is positive. -/
theorem epsR_pos : 0 < epsR := by unfold epsR; positivity
/-- The word for the guard. -/
theorem bits_eps : Ideal.ofBits .f32 0x358637BD#32 = (epsR : EReal) := by
  unfold epsR; simp [Ideal.ofBits, Ideal.ieee, -EReal.coe_mul]; norm_num
/-- The word for the root of one half. -/
theorem bits_rootHalf : Ideal.ofBits .f32 0x3F3504F3#32 = (rootHalf : EReal) := by
  unfold rootHalf; simp [Ideal.ofBits, Ideal.ieee, -EReal.coe_mul]; norm_num

/-- The reciprocal root of a positive number. -/
theorem rsqrt_pos (r : ℝ) (h : 0 < r) : Ideal.rsqrt (r : EReal) = ((√r)⁻¹ : ℝ) := by
  rw [Ideal.rsqrt_coe, if_neg (not_lt.2 h.le), if_neg h.ne']

/-- The root of a nonnegative number. -/
theorem sqrt_nonneg (r : ℝ) (h : 0 ≤ r) : Ideal.sqrt (r : EReal) = (√r : ℝ) := by
  rw [Ideal.sqrt_coe, if_neg (not_lt.2 h)]

/-- The quotient of two real numbers. -/
theorem div_real (x y : ℝ) (h : y ≠ 0) : Ideal.div (x : EReal) (y : EReal) = ((x / y : ℝ) : EReal) := by
  rw [Ideal.div_coe h, ← EReal.coe_mul, mul_one_div]

/-- The error function at a real number. -/
theorem erf_real (r : ℝ) : Ideal.erf (r : EReal) = (erfR r : EReal) := rfl

end Cert.Work

end
-- ==== Proof.Layers.lean ====
/- The graph layers, the attention average and the classifier of the kernel's body, read at an index over the reals. Four
   sequences lie side by side in the columns; each computes the functions of the specification. -/
module

public import proofs.«01_k».proof.Proof.Body
public import proofs.«01_k».proof.Proof.Consts
public import Idealize.ShloMosaic.Lib.Pointwise
public import Idealize.ShloMosaic.Lib.WordArith
public import Idealize.ShloMosaic.PureOps.IdealRules

@[expose] public section

set_option maxRecDepth 16384
set_option maxHeartbeats 2000000

noncomputable section

namespace Cert.Work

open Cert.KernelIdeal Cert.KernelIdeal.Gen Idealize.ShloMosaic Idealize.ShloMosaic.TcCoe

/-- The column of sequence `e` at feature `d`. -/
abbrev col (e : Fin 4) (d : Fin 128) : Fin 512 := ⟨e.val * 128 + d.val, by omega⟩

/-- A row's index as a number. -/
theorem rows16_at (i : Fin 16) (d : Fin 512) : rows16 (ix2 i d) = ((i.val : ℝ) : EReal) := by
  pointwise [rows16]
  show (((BitVec.ofNat 32 i.val).toInt : ℝ) : EReal) = _
  rw [WordArith.toInt_ofNat_small _ (by omega)]; simp

/-- The factor of one of the first sixteen rows. -/
theorem topFactor_at (i : Fin 16) (d : Fin 512) : topFactor (ix2 i d) = (fac ⟨i.val, by omega⟩ : ℝ) := by
  pointwise [topFactor]
  rw [rows16_at, bits_fifteen, ← EReal.coe_one, ← coe_min, ← EReal.coe_add, ← EReal.coe_add, rsqrt_pos _ (by positivity), fac, deg_eq]
  congr 3
  rw [Nat.min_eq_right (by simp; omega : 15 ≤ 511 - (⟨i.val, by omega⟩ : Fin 512).val)]
  push_cast; rfl

/-- The factor of one of the last sixteen rows. -/
theorem botFactor_at (i : Fin 16) (d : Fin 512) : botFactor (ix2 i d) = (fac ⟨496 + i.val, by omega⟩ : ℝ) := by
  pointwise [botFactor]
  have h : ((15 - i.val : ℕ) : ℝ) = 511 - (496 + i.val) := by
    rw [Nat.cast_sub (by omega)]; push_cast; ring
  rw [rows16_at, bits_fifteen, bits_last, bits_tail, ← EReal.coe_one, ← EReal.coe_add, ← EReal.coe_sub, ← h, ← coe_min, ← EReal.coe_add, ← EReal.coe_add,
    rsqrt_pos _ (by positivity), fac, deg_eq]
  congr 3
  have e : min (511 - (⟨496 + i.val, by omega⟩ : Fin 512).val) 15 = 15 - i.val := by simp; omega
  rw [e, Nat.min_eq_right (by simp; omega : 15 ≤ (⟨496 + i.val, by omega⟩ : Fin 512).val), min_eq_left (by exact_mod_cast Nat.sub_le 15 i.val)]
  push_cast; ring

/-- The factor of the rows in between. -/
theorem fac_mid (i : Fin 512) (h : 16 ≤ i.val) (h' : i.val < 496) : fac i = (√31)⁻¹ := by
  rw [fac, deg_eq, Nat.min_eq_right (by omega : 15 ≤ i.val), Nat.min_eq_right (by omega : 15 ≤ 511 - i.val)]; norm_num

/-- The rows times their factors. -/
theorem scaled_at (x : EV S512x512) (f : Fin 512 → ℝ) (d : Fin 512) (hx : ∀ i : Fin 512, x (ix2 i d) = (f i : ℝ)) (i : Fin 512) :
    scaled x topFactor botFactor (ix2 i d) = (f i * fac i : ℝ) := by
  have hn : (Named.named κ "inv_sqrt_31" 1043851892#32 : Ideal .f32) = (((√31)⁻¹ : ℝ) : EReal) :=
    IdealRules.named_const.ideal_named_scalar _ _ _ _ rfl
  pointwise [scaled]
  simp only [hx, topFactor_at, botFactor_at, hn]
  by_cases h1 : i.val < 16
  · refine (dif_pos h1).trans ?_
    rw [← EReal.coe_mul]
  · refine (dif_neg h1).trans ?_
    by_cases h2 : i.val - 16 < 480
    · refine (dif_pos h2).trans ?_
      rw [← EReal.coe_mul, fac_mid i (by omega) (by omega)]
      congr 3; exact Fin.ext (show 16 + (i.val - 16) = i.val by omega)
    · refine (dif_neg h2).trans ?_
      have e : (⟨496 + (i.val - 16 - 480), by omega⟩ : Fin 512) = i := Fin.ext (show 496 + (i.val - 16 - 480) = i.val by omega)
      rw [← EReal.coe_mul]
      exact congrArg (fun j => ((f j * fac j : ℝ) : EReal)) e

/-- The rows between zeros. -/
theorem padded_at (z : EV S512x512) (f : Fin 512 → ℝ) (d : Fin 512) (hz : ∀ i : Fin 512, z (ix2 i d) = (f i : ℝ)) (p : Fin 544) :
    padded z (ix2 p d) = (zeroPad f p.val : ℝ) := by
  pointwise [padded]
  simp only [hz]
  by_cases h1 : p.val < 16
  · refine (dif_pos h1).trans ?_
    rw [zeroPad, dif_neg (by omega), EReal.coe_zero]
  · refine (dif_neg h1).trans ?_
    by_cases h2 : p.val - 16 < 512
    · refine (dif_pos h2).trans ?_
      rw [zeroPad, dif_pos ⟨by omega, h2⟩]
    · refine (dif_neg h2).trans ?_
      rw [zeroPad, dif_neg (by omega), EReal.coe_zero]

/-- The strips add each row's neighbours. -/
theorem strips_at (ms : EV S128x160) (z : EV S512x512) (f : Fin 512 → ℝ) (d : Fin 512)
    (hm : ∀ (r : Fin 128) (k : Fin 160), ms (ix2 r k) = ((if r.val + 1 ≤ k.val ∧ k.val < r.val + 1 + 31 then 1 else 0 : ℝ) : EReal))
    (hz : ∀ i : Fin 512, z (ix2 i d) = (f i : ℝ)) (i : Fin 512) :
    strips ms (padded z) (ix2 i d) = ((∑ j : Fin 512, if near i j then f j else 0 : ℝ) : EReal) := by
  have one : ∀ (q : ℕ) (r : Fin 128) (hq : q + 160 ≤ 544), i.val = q + r.val →
      (∑ k : Fin 160, (ms (ix2 r k) * padded z (ix2 ⟨q + k.val, by omega⟩ d) : EReal)) = ((∑ j : Fin 512, if near i j then f j else 0 : ℝ) : EReal) := by
    intro q r hq hi
    simp only [hm, padded_at z f d hz, ← EReal.coe_mul, ← coe_sum]
    exact congrArg _ (strip_sum f i q r.val hi r.isLt)
  pointwise [strips]
  by_cases h1 : i.val < 128
  · refine (dif_pos h1).trans (Eq.trans ?_ (one 0 ⟨i.val, h1⟩ (by omega) (by simp)))
    exact Finset.sum_congr rfl fun k _ => by congr 3; exact Fin.ext (Nat.zero_add _).symm
  refine (dif_neg h1).trans ?_
  by_cases h2 : i.val - 128 < 128
  · exact (dif_pos h2).trans (one 128 ⟨i.val - 128, h2⟩ (by omega) (by simp; omega))
  refine (dif_neg h2).trans ?_
  by_cases h3 : i.val - 128 - 128 < 128
  · exact (dif_pos h3).trans (one 256 ⟨i.val - 128 - 128, h3⟩ (by omega) (by simp; omega))
  · exact (dif_neg h3).trans (one 384 ⟨i.val - 128 - 128 - 128, by omega⟩ (by omega) (by simp; omega))

/-- A graph product. -/
theorem smooth_at (ms : EV S128x160) (x : EV S512x512) (f : Fin 512 → ℝ) (d : Fin 512)
    (hm : ∀ (r : Fin 128) (k : Fin 160), ms (ix2 r k) = ((if r.val + 1 ≤ k.val ∧ k.val < r.val + 1 + 31 then 1 else 0 : ℝ) : EReal))
    (hx : ∀ i : Fin 512, x (ix2 i d) = (f i : ℝ)) (i : Fin 512) : smooth ms x (ix2 i d) = (∑ j, adj i j * f j : ℝ) := by
  unfold smooth
  rw [scaled_at _ _ d (strips_at _ _ (fun j => f j * fac j) d (fun r k => by pointwise []; exact hm r k) (scaled_at x f d hx)) i, adj_sum]

/-- Four sequences side by side, at a column of one of them. -/
theorem beside_at (p : Fin 4 → EV S512x128) (i : Fin 512) (e : Fin 4) (d : Fin 128) :
    beside (p 0) (p 1) (p 2) (p 3) (ix2 i (col e d)) = p e (ix2 i d) := by
  pointwise [beside]
  fin_cases e
  · refine (dif_pos (show 0 * 128 + d.val < 128 by omega)).trans ?_
    exact congrArg (fun k => p 0 (ix2 i k)) (Fin.ext (show 0 * 128 + d.val = d.val by omega))
  · refine (dif_neg (show ¬1 * 128 + d.val < 128 by omega)).trans ((dif_pos (show 1 * 128 + d.val - 128 < 128 by omega)).trans ?_)
    exact congrArg (fun k => p 1 (ix2 i k)) (Fin.ext (show 1 * 128 + d.val - 128 = d.val by omega))
  · refine (dif_neg (show ¬2 * 128 + d.val < 128 by omega)).trans ((dif_neg (show ¬2 * 128 + d.val - 128 < 128 by omega)).trans
      ((dif_pos (show 2 * 128 + d.val - 128 - 128 < 128 by omega)).trans ?_))
    exact congrArg (fun k => p 2 (ix2 i k)) (Fin.ext (show 2 * 128 + d.val - 128 - 128 = d.val by omega))
  · refine (dif_neg (show ¬3 * 128 + d.val < 128 by omega)).trans ((dif_neg (show ¬3 * 128 + d.val - 128 < 128 by omega)).trans
      ((dif_neg (show ¬3 * 128 + d.val - 128 - 128 < 128 by omega)).trans ?_))
    exact congrArg (fun k => p 3 (ix2 i k)) (Fin.ext (show 3 * 128 + d.val - 128 - 128 - 128 = d.val by omega))

/-- The columns of one sequence. -/
def cols (x : EV S512x512) : Fin 4 → EV S512x128 :=
  ![extractStridedSlice S512x128 ![0, 0] x slices_S512x512_o0_0_S512x128, extractStridedSlice S512x128 ![0, 128] x slices_S512x512_o0_128_S512x128,
    extractStridedSlice S512x128 ![0, 256] x slices_S512x512_o0_256_S512x128, extractStridedSlice S512x128 ![0, 384] x slices_S512x512_o0_384_S512x128]

/-- An entry of the columns of one sequence. -/
theorem cols_at (x : EV S512x512) (i : Fin 512) (e : Fin 4) (d : Fin 128) : cols x e (ix2 i d) = x (ix2 i (col e d)) := by
  fin_cases e
  · show extractStridedSlice S512x128 ![0, 0] x slices_S512x512_o0_0_S512x128 (ix2 i d) = _
    pointwise []
    exact congrArg (fun k => x (ix2 i k)) (Fin.ext (show d.val = 0 * 128 + d.val by omega))
  · show extractStridedSlice S512x128 ![0, 128] x slices_S512x512_o0_128_S512x128 (ix2 i d) = _
    pointwise []
    exact congrArg (fun k => x (ix2 i k)) (Fin.ext (show 128 + d.val = 1 * 128 + d.val by omega))
  · show extractStridedSlice S512x128 ![0, 256] x slices_S512x512_o0_256_S512x128 (ix2 i d) = _
    pointwise []
    exact congrArg (fun k => x (ix2 i k)) (Fin.ext (show 256 + d.val = 2 * 128 + d.val by omega))
  · show extractStridedSlice S512x128 ![0, 384] x slices_S512x512_o0_384_S512x128 (ix2 i d) = _
    pointwise []
    exact congrArg (fun k => x (ix2 i k)) (Fin.ext (show 384 + d.val = 3 * 128 + d.val by omega))

/-- A layer's weights and bias on the rows of each sequence. -/
theorem denses_at (h : EV S512x512) (w : EV S128x128) (b : EV S1x128) (g : Fin 512 → Fin 128 → ℝ) (wr : Fin 128 → Fin 128 → ℝ) (br : Fin 128 → ℝ)
    (e : Fin 4) (hh : ∀ (i : Fin 512) (d : Fin 128), h (ix2 i (col e d)) = (g i d : ℝ)) (hw : ∀ k d : Fin 128, w (ix2 k d) = (wr k d : ℝ))
    (hb : ∀ d : Fin 128, b (ix2 0 d) = (br d : ℝ)) (i : Fin 512) (d : Fin 128) :
    denses h w b (ix2 i (col e d)) = (∑ k, g i k * wr k d + br d : ℝ) := by
  refine (beside_at (fun e => dense (cols h e) w b) i e d).trans ?_
  have hc : ∀ k : Fin 128, cols h e (ix2 i k) = (g i k : ℝ) := fun k => (cols_at h i e k).trans (hh i k)
  generalize cols h e = p at hc
  pointwise [dense]
  simp only [hc, hw, hb, ← EReal.coe_mul, ← coe_sum, ← EReal.coe_add]

/-- The linear unit at an entry. -/
theorem gelu_at (h : EV S512x512) (j : S512x512.Idx) (r : ℝ) (hr : h j = (r : ℝ)) : gelu h j = (geluR rootHalf r : ℝ) := by
  pointwise [gelu]
  rw [hr, bits_half, bits_rootHalf, ← EReal.coe_mul, ← EReal.coe_mul, Ideal.erf_def, erf_real, ← EReal.coe_one, ← EReal.coe_add, ← EReal.coe_mul, geluR]

/-- One layer, on the rows of each sequence. -/
theorem layer_at (ms : EV S128x160) (x : EV S512x512) (w : EV S128x128) (b : EV S1x128) (f : Fin 512 → Fin 128 → ℝ) (wr : Fin 128 → Fin 128 → ℝ)
    (br : Fin 128 → ℝ) (e : Fin 4)
    (hm : ∀ (r : Fin 128) (k : Fin 160), ms (ix2 r k) = ((if r.val + 1 ≤ k.val ∧ k.val < r.val + 1 + 31 then 1 else 0 : ℝ) : EReal))
    (hx : ∀ (i : Fin 512) (d : Fin 128), x (ix2 i (col e d)) = (f i d : ℝ)) (hw : ∀ k d : Fin 128, w (ix2 k d) = (wr k d : ℝ))
    (hb : ∀ d : Fin 128, b (ix2 0 d) = (br d : ℝ)) (i : Fin 512) (d : Fin 128) :
    layer ms x w b (ix2 i (col e d)) = (layerR rootHalf wr br f i d : ℝ) := by
  show (x (ix2 i (col e d)) : EReal) + gelu (denses (smooth ms x) w b) (ix2 i (col e d)) = _
  rw [gelu_at _ _ _ (denses_at (smooth ms x) w b (fun i k => ∑ j, adj i j * f j k) wr br e
    (fun i d => smooth_at ms x (fun j => f j d) (col e d) hm (fun i => hx i d) i) hw hb i d), hx, ← EReal.coe_add, layerR]

/-- The attention scores, at every column of a sequence. -/
theorem scores_at (x : EV S512x512) (a : EV S128x128) (f : Fin 512 → Fin 128 → ℝ) (ar : Fin 128 → ℝ) (e : Fin 4)
    (hx : ∀ (i : Fin 512) (d : Fin 128), x (ix2 i (col e d)) = (f i d : ℝ)) (ha : ∀ k d : Fin 128, a (ix2 k d) = (ar k : ℝ)) (i : Fin 512) (d : Fin 128) :
    scores x a (ix2 i (col e d)) = (scoreR f ar i : ℝ) := by
  refine (beside_at (fun e => score (cols x e) a) i e d).trans ?_
  have hc : ∀ k : Fin 128, cols x e (ix2 i k) = (f i k : ℝ) := fun k => (cols_at x i e k).trans (hx i k)
  generalize cols x e = p at hc
  pointwise [score]
  simp only [hc, ha, ← EReal.coe_mul, ← coe_sum, scoreR]

/-- The rows averaged with the attention weights. -/
theorem pool_at (x : EV S512x512) (a : EV S128x128) (f : Fin 512 → Fin 128 → ℝ) (ar : Fin 128 → ℝ) (e : Fin 4)
    (hx : ∀ (i : Fin 512) (d : Fin 128), x (ix2 i (col e d)) = (f i d : ℝ)) (ha : ∀ k d : Fin 128, a (ix2 k d) = (ar k : ℝ)) (d : Fin 128) :
    pool x a (ix2 0 (col e d)) = (pooledR f (scoreR f ar) d : ℝ) := by
  have hs := fun i => scores_at x a f ar e hx ha i d
  obtain ⟨M, hM⟩ := fold_max_coe (scoreR f ar)
  unfold pool
  generalize scores x a = s at hs
  have hw : ∀ i : Fin 512, weights s (ix2 i (col e d)) = (Real.exp (scoreR f ar i + -M) : ℝ) := by
    intro i
    pointwise [weights]
    simp only [hs]
    rw [bits_bot, hM, ← EReal.coe_sub, Ideal.exp_coe, sub_eq_add_neg]
  generalize weights s = wt at hw
  pointwise [colSum]
  simp only [hw, hx, ← EReal.coe_mul, ← coe_sum]
  rw [div_real _ _ (sum_exp_pos _).ne']
  exact congrArg _ (pooledR_shift f (scoreR f ar) (-M) d)

/-- The mean of a row of 128. -/
theorem mean128_at (p : EV S1x128) (f : Fin 128 → ℝ) (hp : ∀ d : Fin 128, p (ix2 0 d) = (f d : ℝ)) : mean128 p (ix2 0 0) = (meanR f : ℝ) := by
  pointwise [mean128]
  simp only [hp, ← coe_sum]
  rw [bits_cols, div_real _ _ (by norm_num), meanR]

/-- The row less its mean. -/
theorem centred_at (p : EV S1x128) (f : Fin 128 → ℝ) (hp : ∀ d : Fin 128, p (ix2 0 d) = (f d : ℝ)) (d : Fin 128) :
    centred p (ix2 0 d) = (f d - meanR f : ℝ) := by
  have hm := mean128_at p f hp
  unfold centred
  generalize mean128 p = q at hm
  pointwise []
  rw [hp, hm, EReal.coe_sub]

/-- The variance is not negative. -/
theorem var_nonneg (f : Fin 128 → ℝ) : 0 ≤ meanR (fun e => (f e - meanR f) * (f e - meanR f)) :=
  div_nonneg (Finset.sum_nonneg fun e _ => mul_self_nonneg _) (by norm_num)

/-- The row normalised. -/
theorem normed_at (p : EV S1x128) (f : Fin 128 → ℝ) (hp : ∀ d : Fin 128, p (ix2 0 d) = (f d : ℝ)) (d : Fin 128) :
    normed p (ix2 0 d) = (normR epsR f d : ℝ) := by
  have hc := centred_at p f hp
  have hv := mean128_at (mulf (centred p) (centred p)) (fun e => (f e - meanR f) * (f e - meanR f))
    (fun d => by pointwise []; rw [hc, EReal.coe_mul])
  unfold normed
  generalize mean128 _ = q at hv
  generalize centred p = u at hc
  pointwise []
  rw [hc, hv, bits_eps, ← EReal.coe_add, rsqrt_pos _ (add_pos_of_nonneg_of_pos (var_nonneg f) epsR_pos), ← EReal.coe_mul, normR]

/-- The classifier on one sequence's pooled row. -/
theorem head_at (p : EV S1x128) (g b : EV S1x128) (w : EV S128x256) (c : EV S1x256) (f : Fin 128 → ℝ) (hp : ∀ d : Fin 128, p (ix2 0 d) = (f d : ℝ)) (j : Fin 256) :
    head p g b w c (ix3 0 0 j) = (∑ k : Fin 128, ((normR epsR f k : ℝ) * (show EReal from g (ix2 0 k)) + (show EReal from b (ix2 0 k))) * (show EReal from w (ix2 k j)) : EReal) + (show EReal from c (ix2 0 j)) := by
  have hn := normed_at p f hp
  unfold head
  generalize normed p = u at hn
  pointwise []
  simp only [hn]

end Cert.Work

end
-- ==== Proof.Entry.lean ====
/- What the kernel's grid points are given: each operand's block, read at an index, in terms of the program's arguments. -/
module

public import proofs.«01_k».proof.Proof.Whole
public import proofs.«01_k».proof.Proof.Front
public import proofs.«01_k».proof.Proof.Layers
public import Idealize.ShloMosaic.Lib.Pointwise
public import Idealize.ShloMosaic.Lib.Pipeline.ValueKit
public import Idealize.ShloMosaic.Lib.Claim

@[expose] public section

set_option maxRecDepth 16384
set_option maxHeartbeats 2000000

noncomputable section

namespace Cert.Work

open Cert.KernelIdeal Cert.KernelIdeal.Gen Idealize.ShloMosaic Idealize.ShloMosaic.TcCoe Idealize.SL.Sem

/-- Four pieces of 128 in a row. -/
def row4 (p : Fin 4 → EV S128) : EV S1x512 :=
  broadcastInDim S1x512 ![1] bcast_S512_S1x512_1 (concatenate S512 0 [⟨S128, p 0⟩, ⟨S128, p 1⟩, ⟨S128, p 2⟩, ⟨S128, p 3⟩] concatenates_S128_S128_S128_S128_S512_d0)

/-- Six rows of 512. -/
def stack6 (p : Fin 6 → EV S1x512) : EV S6x512 :=
  concatenate S6x512 0 [⟨S1x512, p 0⟩, ⟨S1x512, p 1⟩, ⟨S1x512, p 2⟩, ⟨S1x512, p 3⟩, ⟨S1x512, p 4⟩, ⟨S1x512, p 5⟩]
    concatenates_S1x512_S1x512_S1x512_S1x512_S1x512_S1x512_S6x512_d0

/-- A piece of zeros. -/
def zero128 : EV S128 := broadcastInDim S128 ![] bcast_S_S128 (constant S_ .f32 0x00000000#32)

/-- The three taps of the first convolution. -/
def planes (w : EV S3x1x128) : Fin 3 → EV S128 :=
  ![shapeCast S128 (extractStridedSlice S1x1x128 ![0, 0, 0] w slices_S3x1x128_S1x1x128_0_0_0) shapeCasts_S1x1x128_S128,
    shapeCast S128 (extractStridedSlice S1x1x128 ![1, 0, 0] w slices_S3x1x128_S1x1x128_1_0_0) shapeCasts_S1x1x128_S128,
    shapeCast S128 (extractStridedSlice S1x1x128 ![2, 0, 0] w slices_S3x1x128_S1x1x128_2_0_0) shapeCasts_S1x1x128_S128]

/-- The table of the first convolution's weights, by column of the input and phase of the output. -/
def table (w : EV S3x1x128) : EV S6x512 :=
  stack6 ![row4 ![planes w 1, planes w 0, zero128, zero128], row4 ![planes w 2, planes w 1, planes w 0, zero128],
    row4 ![zero128, planes w 2, planes w 1, planes w 0], row4 ![zero128, zero128, planes w 2, planes w 1],
    row4 ![planes w 0, zero128, zero128, zero128], row4 ![zero128, zero128, zero128, planes w 2]]

/-- An entry of four pieces in a row. -/
theorem row4_at (p : Fin 4 → EV S128) (q : Fin 4) (d : Fin 128) : row4 p (ix2 0 (col q d)) = p q (ix1 d) := by
  pointwise [row4]
  fin_cases q
  · refine (dif_pos (show 0 * 128 + d.val < 128 by omega)).trans ?_
    exact congrArg (fun k => p 0 (ix1 k)) (Fin.ext (show 0 * 128 + d.val = d.val by omega))
  · refine (dif_neg (show ¬1 * 128 + d.val < 128 by omega)).trans ((dif_pos (show 1 * 128 + d.val - 128 < 128 by omega)).trans ?_)
    exact congrArg (fun k => p 1 (ix1 k)) (Fin.ext (show 1 * 128 + d.val - 128 = d.val by omega))
  · refine (dif_neg (show ¬2 * 128 + d.val < 128 by omega)).trans ((dif_neg (show ¬2 * 128 + d.val - 128 < 128 by omega)).trans
      ((dif_pos (show 2 * 128 + d.val - 128 - 128 < 128 by omega)).trans ?_))
    exact congrArg (fun k => p 2 (ix1 k)) (Fin.ext (show 2 * 128 + d.val - 128 - 128 = d.val by omega))
  · refine (dif_neg (show ¬3 * 128 + d.val < 128 by omega)).trans ((dif_neg (show ¬3 * 128 + d.val - 128 < 128 by omega)).trans
      ((dif_neg (show ¬3 * 128 + d.val - 128 - 128 < 128 by omega)).trans ?_))
    exact congrArg (fun k => p 3 (ix1 k)) (Fin.ext (show 3 * 128 + d.val - 128 - 128 - 128 = d.val by omega))

/-- An entry of six rows. -/
theorem stack6_at (p : Fin 6 → EV S1x512) (k : Fin 6) (j : Fin 512) : stack6 p (ix2 k j) = p k (ix2 0 j) := by
  pointwise [stack6]
  fin_cases k <;> rfl

/-- A tap's entry. -/
theorem planes_at (w : EV S3x1x128) (j : Fin 3) (d : Fin 128) : planes w j (ix1 d) = w (ix3 j 0 d) := by
  fin_cases j
  · show shapeCast S128 (extractStridedSlice S1x1x128 ![0, 0, 0] w slices_S3x1x128_S1x1x128_0_0_0) shapeCasts_S1x1x128_S128 (ix1 d) = _
    pointwise []
  · show shapeCast S128 (extractStridedSlice S1x1x128 ![1, 0, 0] w slices_S3x1x128_S1x1x128_1_0_0) shapeCasts_S1x1x128_S128 (ix1 d) = _
    pointwise []
  · show shapeCast S128 (extractStridedSlice S1x1x128 ![2, 0, 0] w slices_S3x1x128_S1x1x128_2_0_0) shapeCasts_S1x1x128_S128 (ix1 d) = _
    pointwise []

/-- The zeros' entry. -/
theorem zero128_at (d : Fin 128) : zero128 (ix1 d) = ((0 : ℝ) : EReal) := by
  pointwise [zero128]
  exact EReal.coe_zero.symm

/-- An entry of the table. -/
theorem table_at (w : EV S3x1x128) (wr : Fin 3 → Fin 128 → ℝ) (hw : ∀ (j : Fin 3) (d : Fin 128), w (ix3 j 0 d) = (wr j d : ℝ))
    (k : Fin 6) (q : Fin 4) (d : Fin 128) : table w (ix2 k (col q d)) = (taps wr d k q : ℝ) := by
  have hp : ∀ j, planes w j (ix1 d) = (wr j d : ℝ) := fun j => (planes_at w j d).trans (hw j d)
  have hz := zero128_at d
  refine (stack6_at _ k _).trans ?_
  fin_cases k <;> refine (row4_at _ q d).trans ?_ <;> fin_cases q <;> first | exact hp 0 | exact hp 1 | exact hp 2 | exact hz

variable (m : (ℓ : Loc nD τ sig) → Buf (Elt Ideal) ℓ)

/-- The table is what the host operations leave in the kernel's second operand. -/
theorem V_table (c : Dev nD) : V m c main_v20 = table (m ((c : Thread nD τ).loc main_arg1)) := rfl

/-- The strip's comparisons, as bits. -/
theorem strip_bits : ∀ (r : Fin 128) (k : Fin 160),
    IntOp.andi (IntOp.cmpi CmpIPredicate.sge (IntOp.subi (BitVec.ofNat 32 k.val) (BitVec.ofNat 32 r.val)) 1#32)
      (IntOp.cmpi CmpIPredicate.sle (IntOp.subi (BitVec.ofNat 32 k.val) (BitVec.ofNat 32 r.val)) 31#32)
      = if r.val + 1 ≤ k.val ∧ k.val < r.val + 1 + 31 then 1#1 else 0#1 := by decide +kernel

/-- The strip of zeros and ones in the kernel's third operand. -/
theorem V_strip (c : Dev nD) (r : Fin 128) (k : Fin 160) :
    (show EV S128x160 from V m c main_v39) (ix2 r k) = ((if r.val + 1 ≤ k.val ∧ k.val < r.val + 1 + 31 then 1 else 0 : ℝ) : EReal) := by
  show V m c main_v39 (ix2 r k) = _
  entry_read
  pointwise []
  rw [strip_bits]
  split_ifs
  · show (((1#1 : BitVec 1).toNat : ℝ) : EReal) = _; simp
  · show (((0#1 : BitVec 1).toNat : ℝ) : EReal) = _; simp

/-- A bias laid out as one row. -/
theorem V_rows (c : Dev nD) (d : Fin 128) :
    V m c main_v40 (ix2 0 d) = m ((c : Thread nD τ).loc main_arg2) (ix1 d)
    ∧ V m c main_v46 (ix2 0 d) = m ((c : Thread nD τ).loc main_arg6) (ix1 d)
    ∧ V m c main_v47 (ix2 0 d) = m ((c : Thread nD τ).loc main_arg8) (ix1 d)
    ∧ V m c main_v48 (ix2 0 d) = m ((c : Thread nD τ).loc main_arg10) (ix1 d)
    ∧ V m c main_v49 (ix2 0 d) = m ((c : Thread nD τ).loc main_arg12) (ix1 d)
    ∧ V m c main_v50 (ix2 0 d) = m ((c : Thread nD τ).loc main_arg15) (ix1 d)
    ∧ V m c main_v51 (ix2 0 d) = m ((c : Thread nD τ).loc main_arg16) (ix1 d) := by
  refine ⟨?_, ?_, ?_, ?_, ?_, ?_, ?_⟩ <;> entry_read <;> pointwise []

/-- The classifier's bias laid out as one row. -/
theorem V_out (c : Dev nD) (j : Fin 256) : V m c main_v52 (ix2 0 j) = m ((c : Thread nD τ).loc main_arg18) (ix1 j) := by
  entry_read; pointwise []

/-- The second convolution's weights, a quarter of the argument. -/
theorem V_weights (c : Dev nD) (j : Fin 3) (k d : Fin 128) :
    V m c main_v42 (ix3 j k d) = (show EReal from m ((c : Thread nD τ).loc main_arg3) (ix3 j k d)) * ((1 / 4 : ℝ) : EReal) := by
  entry_read; pointwise []; rw [bits_quarter]

/-- The second convolution's bias, half of the argument. -/
theorem V_bias (c : Dev nD) (d : Fin 128) :
    V m c main_v45 (ix2 0 d) = (show EReal from m ((c : Thread nD τ).loc main_arg4) (ix1 d)) * ((1 / 2 : ℝ) : EReal) := by
  entry_read; pointwise []; rw [bits_half]

/-- The attention weights, repeated along the columns. -/
theorem V_attention (c : Dev nD) (k d : Fin 128) : V m c main_v23 (ix2 k d) = m ((c : Thread nD τ).loc main_arg13) (ix2 k 0) := by
  entry_read; pointwise []

end Cert.Work

end
-- ==== Proof.Model.lean ====
/- The real numbers behind the arguments of both programs, and the classifier's result computed from them. -/
module

public import proofs.«01_k».proof.Proof.Consts

@[expose] public section

noncomputable section

namespace Cert.Work

open Idealize.ShloMosaic

/-- The real numbers the first fifteen arguments hold. -/
structure Nums where
  /-- the sequences -/
  s : Fin 64 → Fin 2048 → ℝ
  /-- the first convolution -/
  w0 : Fin 3 → Fin 128 → ℝ
  /-- its bias -/
  b0 : Fin 128 → ℝ
  /-- the second convolution -/
  w1 : Fin 3 → Fin 128 → Fin 128 → ℝ
  /-- its bias -/
  b1 : Fin 128 → ℝ
  /-- the weights of the four layers -/
  g : Fin 4 → Fin 128 → Fin 128 → ℝ
  /-- their biases -/
  h : Fin 4 → Fin 128 → ℝ
  /-- the attention weights -/
  a : Fin 128 → ℝ
  /-- the attention bias -/
  a0 : ℝ

/-- The rows of sequence `b` that enter the layers. -/
def Nums.rows (n : Nums) (b : Fin 64) : Fin 512 → Fin 128 → ℝ := rows0 (n.s b) n.w0 n.b0 n.w1 n.b1

/-- Layer `k`. -/
def Nums.layer (n : Nums) (k : Fin 4) (x : Fin 512 → Fin 128 → ℝ) : Fin 512 → Fin 128 → ℝ := layerR rootHalf (n.g k) (n.h k) x

/-- The rows of sequence `b` behind the four layers. -/
def Nums.deep (n : Nums) (b : Fin 64) : Fin 512 → Fin 128 → ℝ := n.layer 3 (n.layer 2 (n.layer 1 (n.layer 0 (n.rows b))))

/-- The attention average of sequence `b`. -/
def Nums.pooled (n : Nums) (b : Fin 64) : Fin 128 → ℝ := pooledR (n.deep b) (scoreR (n.deep b) n.a)

/-- The classifier's result: the normalised average scaled and shifted, times a matrix, plus a bias. These last four arguments
    may be any extended reals. -/
def Nums.out (n : Nums) (γ β : Fin 128 → EReal) (w : Fin 128 → Fin 256 → EReal) (c : Fin 256 → EReal) (b : Fin 64) (j : Fin 256) : EReal :=
  (∑ k : Fin 128, ((normR epsR (n.pooled b) k : ℝ) * γ k + β k) * w k j) + c j

end Cert.Work

end
-- ==== Proof.Block.lean ====
/- What a grid point writes, from blocks that hold real numbers: the classifier's result for each of its four sequences. -/
module

public import proofs.«01_k».proof.Proof.Whole
public import proofs.«01_k».proof.Proof.Front
public import proofs.«01_k».proof.Proof.Layers
public import proofs.«01_k».proof.Proof.Model

@[expose] public section

set_option maxRecDepth 16384
set_option maxHeartbeats 400000

noncomputable section

namespace Cert.Work

open Cert.KernelIdeal Cert.KernelIdeal.Gen Idealize.ShloMosaic Idealize.ShloMosaic.TcCoe Idealize.SL.Sem

/-- An index of a row of 256 in a block of one. -/
theorem row256 (x : S1x1x256.Idx) (j : Fin 256) (h : (x 2).val = j.val) : x = ix3 0 0 j := by
  funext a
  refine Fin.ext ?_
  match a with
  | 0 => exact Nat.lt_one_iff.1 (x 0).isLt
  | 1 => exact Nat.lt_one_iff.1 (x 1).isLt
  | 2 => exact h

/-- Four pieces stored one behind the other, at an index. -/
theorem pieces_at (p : Fin 4 → EV S1x1x256) (e : Fin 4) (j : Fin 256) :
    (View.canon [⟨r0_19, p 3⟩, ⟨r0_18, p 2⟩, ⟨r0_17, p 1⟩, ⟨r0_16, p 0⟩] : Vec Ideal S4x1x256 .f32) (ix3 e 0 j) = p e (ix3 0 0 j) := by
  have key : ∀ (k : Fin 4) (x : S1x1x256.Idx), e.val = k.val → j.val = (x 2).val → p k x = p e (ix3 0 0 j) := fun k x hk hj => by
    rw [row256 x j hj.symm, Fin.ext hk]
  canon_tiles x h
  · exact key 3 x (h0.trans (by simp)) h2
  · exact key 2 x (h0.trans (by simp)) h2
  · exact key 1 x (h0.trans (by simp)) h2
  · exact key 0 x (h0.trans (by simp)) h2

/-- Four of anything. -/
abbrev four {α : Type} (a b c d : α) : Fin 4 → α := ![a, b, c, d]

/-- The columns of one sequence in a row of four. -/
theorem quarter_at (p : EV S1x512) (e : Fin 4) (d : Fin 128) :
    four (extractStridedSlice S1x128 ![0, 0] p slices_S1x512_o0_0_S1x128) (extractStridedSlice S1x128 ![0, 128] p slices_S1x512_o0_128_S1x128)
      (extractStridedSlice S1x128 ![0, 256] p slices_S1x512_o0_256_S1x128) (extractStridedSlice S1x128 ![0, 384] p slices_S1x512_o0_384_S1x128) e (ix2 0 d)
      = p (ix2 0 (col e d)) := by
  fin_cases e
  · show extractStridedSlice S1x128 ![0, 0] p slices_S1x512_o0_0_S1x128 (ix2 0 d) = _
    pointwise []
    exact congrArg (fun k => p (ix2 0 k)) (Fin.ext (show d.val = 0 * 128 + d.val by omega))
  · show extractStridedSlice S1x128 ![0, 128] p slices_S1x512_o0_128_S1x128 (ix2 0 d) = _
    pointwise []
    rfl
  · show extractStridedSlice S1x128 ![0, 256] p slices_S1x512_o0_256_S1x128 (ix2 0 d) = _
    pointwise []
    rfl
  · show extractStridedSlice S1x128 ![0, 384] p slices_S1x512_o0_384_S1x128 (ix2 0 d) = _
    pointwise []
    rfl

/-- The load of a whole row. -/
theorem ld_row (x : Vec Ideal S1x128 .f32) : (View.ld x r0_0 : EV S1x128) = x := View.ld_unit_lit _ _ (by decide)
/-- The load of a whole square. -/
theorem ld_square (x : Vec Ideal S128x128 .f32) : (View.ld x r0_13 : EV S128x128) = x := View.ld_unit_lit _ _ (by decide)
/-- The load of the whole strip. -/
theorem ld_strip (x : Vec Ideal S128x160 .f32) : (View.ld x r0_12 : EV S128x160) = x := View.ld_unit_lit _ _ (by decide)

section
variable (x0 : Vec Ideal S4x512x4 .f32) (x1 : Vec Ideal S6x512 .f32) (x2 : Vec Ideal S128x160 .f32) (x3 : Vec Ideal S1x128 .f32)
  (x4 : Vec Ideal S3x128x128 .f32) (x5 : Vec Ideal S1x128 .f32) (x6 : Vec Ideal S128x128 .f32) (x7 : Vec Ideal S1x128 .f32)
  (x8 : Vec Ideal S128x128 .f32) (x9 : Vec Ideal S1x128 .f32) (x10 : Vec Ideal S128x128 .f32) (x11 : Vec Ideal S1x128 .f32)
  (x12 : Vec Ideal S128x128 .f32) (x13 : Vec Ideal S1x128 .f32) (x14 : Vec Ideal S128x128 .f32) (x15 x16 : Vec Ideal S1x128 .f32)
  (x17 : Vec Ideal S128x256 .f32) (x18 : Vec Ideal S1x256 .f32)

/-- The rows that enter the layers. -/
theorem start_at (n : Nums) (q : Fin 4 → Fin 64)
    (h0 : ∀ (e : Fin 4) (i : Fin 512) (k : Fin 4), x0 (ix3 e i k) = (n.s (q e) ⟨4 * i.val + k.val, by omega⟩ : ℝ))
    (h1 : ∀ (k : Fin 6) (r : Fin 4) (d : Fin 128), x1 (ix2 k (col r d)) = (taps n.w0 d k r : ℝ))
    (h3 : ∀ d : Fin 128, x3 (ix2 0 d) = (n.b0 d : ℝ)) (h4 : ∀ (j : Fin 3) (k d : Fin 128), x4 (ix3 j k d) = (n.w1 j k d * (1 / 4) : ℝ))
    (h5 : ∀ d : Fin 128, x5 (ix2 0 d) = (n.b1 d * (1 / 2) : ℝ)) (e : Fin 4) (i : Fin 512) (d : Fin 128) :
    start x0 x1 x3 x4 x5 (ix2 i (col e d)) = (n.rows (q e) i d : ℝ) := by
  have hf : ∀ (v : EV S1x512x4) (b : Fin 64), (∀ (i : Fin 512) (k : Fin 4), v (ix3 0 i k) = (n.s b ⟨4 * i.val + k.val, by omega⟩ : ℝ)) →
      ∀ (i : Fin 512) (d : Fin 128), frontAt x1 x3 x4 x5 v (ix2 i d) = (n.rows b i d : ℝ) := fun v b hv i d => by
    refine front_at v _ _ _ _ _ _ _ _ _ (n.s b) n.w0 n.b0 n.w1 n.b1 hv ?_ ?_ ?_ ?_ ?_ ?_ ?_ ?_ ?_ i d
    · intro d; pointwise []; exact h3 d
    · intro d; pointwise []; exact h5 d
    · intro k d; pointwise []; exact (congrArg (fun c => x1 (ix2 k c)) (Fin.ext (show d.val = 0 * 128 + d.val by omega))).trans (h1 k 0 d)
    · intro k d; pointwise []; exact h1 k 1 d
    · intro k d; pointwise []; exact h1 k 2 d
    · intro k d; pointwise []; exact h1 k 3 d
    · intro k d; pointwise []; exact h4 0 k d
    · intro k d; pointwise []; exact h4 1 k d
    · intro k d; pointwise []; exact h4 2 k d
  refine (beside_at (four (frontAt x1 x3 x4 x5 (View.ld x0 r0_1)) (frontAt x1 x3 x4 x5 (View.ld x0 r0_9)) (frontAt x1 x3 x4 x5 (View.ld x0 r0_10))
    (frontAt x1 x3 x4 x5 (View.ld x0 r0_11))) i e d).trans ?_
  fin_cases e
  · exact hf _ _ (fun i k => by pointwise []; exact h0 0 i k) i d
  · exact hf _ _ (fun i k => by pointwise []; exact h0 1 i k) i d
  · exact hf _ _ (fun i k => by pointwise []; exact h0 2 i k) i d
  · exact hf _ _ (fun i k => by pointwise []; exact h0 3 i k) i d

/-- The pooled rows of the four sequences. -/
theorem pooled_at (n : Nums) (q : Fin 4 → Fin 64)
    (h0 : ∀ (e : Fin 4) (i : Fin 512) (k : Fin 4), x0 (ix3 e i k) = (n.s (q e) ⟨4 * i.val + k.val, by omega⟩ : ℝ))
    (h1 : ∀ (k : Fin 6) (r : Fin 4) (d : Fin 128), x1 (ix2 k (col r d)) = (taps n.w0 d k r : ℝ))
    (h2 : ∀ (r : Fin 128) (k : Fin 160), x2 (ix2 r k) = ((if r.val + 1 ≤ k.val ∧ k.val < r.val + 1 + 31 then 1 else 0 : ℝ) : EReal))
    (h3 : ∀ d : Fin 128, x3 (ix2 0 d) = (n.b0 d : ℝ)) (h4 : ∀ (j : Fin 3) (k d : Fin 128), x4 (ix3 j k d) = (n.w1 j k d * (1 / 4) : ℝ))
    (h5 : ∀ d : Fin 128, x5 (ix2 0 d) = (n.b1 d * (1 / 2) : ℝ))
    (h6 : ∀ k d : Fin 128, x6 (ix2 k d) = (n.g 0 k d : ℝ)) (h7 : ∀ d : Fin 128, x7 (ix2 0 d) = (n.h 0 d : ℝ))
    (h8 : ∀ k d : Fin 128, x8 (ix2 k d) = (n.g 1 k d : ℝ)) (h9 : ∀ d : Fin 128, x9 (ix2 0 d) = (n.h 1 d : ℝ))
    (h10 : ∀ k d : Fin 128, x10 (ix2 k d) = (n.g 2 k d : ℝ)) (h11 : ∀ d : Fin 128, x11 (ix2 0 d) = (n.h 2 d : ℝ))
    (h12 : ∀ k d : Fin 128, x12 (ix2 k d) = (n.g 3 k d : ℝ)) (h13 : ∀ d : Fin 128, x13 (ix2 0 d) = (n.h 3 d : ℝ))
    (h14 : ∀ k d : Fin 128, x14 (ix2 k d) = (n.a k : ℝ)) (e : Fin 4) (d : Fin 128) :
    pooled x0 x1 x2 x3 x4 x5 x6 x7 x8 x9 x10 x11 x12 x13 x14 (ix2 0 (col e d)) = (n.pooled (q e) d : ℝ) := by
  have e0 := start_at x0 x1 x3 x4 x5 n q h0 h1 h3 h4 h5 e
  unfold pooled after4 after3 after2 after1
  generalize start x0 x1 x3 x4 x5 = s0 at e0 ⊢
  rw [ld_row x7, ld_row x9, ld_row x11, ld_row x13, ld_square x6, ld_square x8, ld_square x10, ld_square x12, ld_square x14, ld_strip x2]
  have e1 := layer_at x2 s0 x6 x7 _ (n.g 0) (n.h 0) e h2 e0 h6 h7
  generalize layer x2 s0 x6 x7 = s1 at e1 ⊢
  have e2 := layer_at x2 s1 x8 x9 _ (n.g 1) (n.h 1) e h2 e1 h8 h9
  generalize layer x2 s1 x8 x9 = s2 at e2 ⊢
  have e3 := layer_at x2 s2 x10 x11 _ (n.g 2) (n.h 2) e h2 e2 h10 h11
  generalize layer x2 s2 x10 x11 = s3 at e3 ⊢
  have e4 := layer_at x2 s3 x12 x13 _ (n.g 3) (n.h 3) e h2 e3 h12 h13
  generalize layer x2 s3 x12 x13 = s4 at e4 ⊢
  exact pool_at s4 x14 _ n.a e e4 h14 d

/-- The classifier's pieces, stored one behind the other. -/
theorem heads_at (p : EV S1x512) (e : Fin 4) (j : Fin 256) :
    (View.canon [⟨r0_19, headAt x15 x16 x17 x18 (extractStridedSlice S1x128 ![0, 384] p slices_S1x512_o0_384_S1x128)⟩,
      ⟨r0_18, headAt x15 x16 x17 x18 (extractStridedSlice S1x128 ![0, 256] p slices_S1x512_o0_256_S1x128)⟩,
      ⟨r0_17, headAt x15 x16 x17 x18 (extractStridedSlice S1x128 ![0, 128] p slices_S1x512_o0_128_S1x128)⟩,
      ⟨r0_16, headAt x15 x16 x17 x18 (extractStridedSlice S1x128 ![0, 0] p slices_S1x512_o0_0_S1x128)⟩] : Vec Ideal S4x1x256 .f32) (ix3 e 0 j)
      = headAt x15 x16 x17 x18 (four (extractStridedSlice S1x128 ![0, 0] p slices_S1x512_o0_0_S1x128)
    (extractStridedSlice S1x128 ![0, 128] p slices_S1x512_o0_128_S1x128) (extractStridedSlice S1x128 ![0, 256] p slices_S1x512_o0_256_S1x128)
    (extractStridedSlice S1x128 ![0, 384] p slices_S1x512_o0_384_S1x128) e) (ix3 0 0 j) := by
  generalize extractStridedSlice S1x128 ![0, 384] p slices_S1x512_o0_384_S1x128 = p3
  generalize extractStridedSlice S1x128 ![0, 256] p slices_S1x512_o0_256_S1x128 = p2
  generalize extractStridedSlice S1x128 ![0, 128] p slices_S1x512_o0_128_S1x128 = p1
  generalize extractStridedSlice S1x128 ![0, 0] p slices_S1x512_o0_0_S1x128 = p0
  unfold headAt
  generalize (View.ld x15 r0_0 : EV S1x128) = y15
  generalize (View.ld x16 r0_0 : EV S1x128) = y16
  generalize (View.ld x17 r0_14 : EV S128x256) = y17
  generalize (View.ld x18 r0_15 : EV S1x256) = y18
  generalize hf : (fun r => head r y15 y16 y17 y18) = f
  have hf' : ∀ r, head r y15 y16 y17 y18 = f r := fun r => congrFun hf r
  simp only [hf']
  exact pieces_at (fun k => f (four p0 p1 p2 p3 k)) e j

/-- The classifier on one sequence's columns. -/
theorem headAt_at (p : EV S1x512) (f : Fin 128 → ℝ) (e : Fin 4) (hp : ∀ d : Fin 128, p (ix2 0 (col e d)) = (f d : ℝ)) (j : Fin 256) :
    headAt x15 x16 x17 x18 (four (extractStridedSlice S1x128 ![0, 0] p slices_S1x512_o0_0_S1x128)
    (extractStridedSlice S1x128 ![0, 128] p slices_S1x512_o0_128_S1x128) (extractStridedSlice S1x128 ![0, 256] p slices_S1x512_o0_256_S1x128)
    (extractStridedSlice S1x128 ![0, 384] p slices_S1x512_o0_384_S1x128) e) (ix3 0 0 j)
      = (∑ k : Fin 128, ((normR epsR f k : ℝ) * (show EReal from x15 (ix2 0 k)) + (show EReal from x16 (ix2 0 k))) * (show EReal from x17 (ix2 k j)) : EReal)
        + (show EReal from x18 (ix2 0 j)) := by
  have hq := fun d => (quarter_at p e d).trans (hp d)
  generalize four _ _ _ _ e = u at hq
  unfold headAt
  rw [View.ld_unit_lit _ x15 (by decide), View.ld_unit_lit _ x16 (by decide), View.ld_unit_lit _ x17 (by decide), View.ld_unit_lit _ x18 (by decide)]
  exact head_at u x15 x16 x17 x18 f hq j

/-- What a grid point writes. -/
theorem out_at (n : Nums) (q : Fin 4 → Fin 64) (e : Fin 4)
    (hp : ∀ d : Fin 128, pooled x0 x1 x2 x3 x4 x5 x6 x7 x8 x9 x10 x11 x12 x13 x14 (ix2 0 (col e d)) = (n.pooled (q e) d : ℝ)) (j : Fin 256) :
    out0_19 x0 x1 x2 x3 x4 x5 x6 x7 x8 x9 x10 x11 x12 x13 x14 x15 x16 x17 x18 (ix3 e 0 j)
      = n.out (fun k => x15 (ix2 0 k)) (fun k => x16 (ix2 0 k)) (fun k j => x17 (ix2 k j)) (fun j => x18 (ix2 0 j)) (q e) j := by
  rw [out_eq]
  generalize pooled x0 x1 x2 x3 x4 x5 x6 x7 x8 x9 x10 x11 x12 x13 x14 = p at hp ⊢
  exact (heads_at x15 x16 x17 x18 p e j).trans (headAt_at x15 x16 x17 x18 p _ e hp j)

end

end Cert.Work

end
-- ==== Proof.Bridge.lean ====
/- The kernel's result array, for arguments that hold real numbers. -/
module

public import proofs.«01_k».proof.Proof.Entry
public import proofs.«01_k».proof.Proof.Block

@[expose] public section

set_option maxRecDepth 16384
set_option maxHeartbeats 2000000

noncomputable section

namespace Cert.Work

open Cert.KernelIdeal Cert.KernelIdeal.Gen Idealize.ShloMosaic Idealize.ShloMosaic.TcCoe Idealize.SL.Sem

variable (m : (ℓ : Loc nD τ sig) → Buf (Elt Ideal) ℓ) (c : Dev nD)

/-- The first fifteen arguments hold the numbers `n`. -/
structure Hold (n : Nums) (x0 : EV S64x2048) (x1 : EV S3x1x128) (x2 : EV S128) (x3 : EV S3x128x128) (x4 : EV S128) (x5 : EV S128x128) (x6 : EV S128)
    (x7 : EV S128x128) (x8 : EV S128) (x9 : EV S128x128) (x10 : EV S128) (x11 : EV S128x128) (x12 : EV S128) (x13 : EV S128x1) (x14 : EV S1) : Prop where
  h0 : ∀ b i, x0 (ix2 b i) = (n.s b i : ℝ)
  h1 : ∀ j d, x1 (ix3 j 0 d) = (n.w0 j d : ℝ)
  h2 : ∀ d, x2 (ix1 d) = (n.b0 d : ℝ)
  h3 : ∀ j k d, x3 (ix3 j k d) = (n.w1 j k d : ℝ)
  h4 : ∀ d, x4 (ix1 d) = (n.b1 d : ℝ)
  h5 : ∀ k d, x5 (ix2 k d) = (n.g 0 k d : ℝ)
  h6 : ∀ d, x6 (ix1 d) = (n.h 0 d : ℝ)
  h7 : ∀ k d, x7 (ix2 k d) = (n.g 1 k d : ℝ)
  h8 : ∀ d, x8 (ix1 d) = (n.h 1 d : ℝ)
  h9 : ∀ k d, x9 (ix2 k d) = (n.g 2 k d : ℝ)
  h10 : ∀ d, x10 (ix1 d) = (n.h 2 d : ℝ)
  h11 : ∀ k d, x11 (ix2 k d) = (n.g 3 k d : ℝ)
  h12 : ∀ d, x12 (ix1 d) = (n.h 3 d : ℝ)
  h13 : ∀ k, x13 (ix2 k 0) = (n.a k : ℝ)
  h14 : x14 (ix1 0) = (n.a0 : ℝ)

/-- The kernel's first fifteen arguments hold the numbers `n`. -/
abbrev Held (n : Nums) : Prop :=
  Hold n (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- The kernel's result. -/
def result (n : Nums) (x15 x16 : EV S128) (x17 : EV S128x256) (x18 : EV S256) : EV S64x1x256 := fun i =>
  n.out (fun k => x15 (ix1 k)) (fun k => x16 (ix1 k)) (fun k j => x17 (ix2 k j)) (fun j => x18 (ix1 j)) (i 0) (i 2)

/-- What grid point `t` writes. -/
theorem point (n : Nums) (hn : Held m c n) (t : Fin cfg0.N) (e : Fin 4) (j : Fin 256) :
    out0_19 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) (iblk m c 15 t) (iblk m c 16 t) (iblk m c 17 t)
      (iblk m c 18 t) (ix3 e 0 j)
      = result n (m ((c : Thread nD τ).loc main_arg15)) (m ((c : Thread nD τ).loc main_arg16)) (m ((c : Thread nD τ).loc main_arg17))
          (m ((c : Thread nD τ).loc main_arg18)) (ix3 (seqOf t e) 0 j) := by
  obtain ⟨w1, w2, w3, w4, w5, w6, w7, w8, w9, w10, w11, w12, w13, w14, w15, w16, w17, w18⟩ := whole m c t
  have vr := V_rows m c
  refine (out_at (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) (iblk m c 15 t) (iblk m c 16 t) (iblk m c 17 t)
      (iblk m c 18 t) n (seqOf t) e (fun d => pooled_at (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t) (iblk m c 13 t) (iblk m c 14 t)
      n (seqOf t) ?_ ?_ ?_ ?_ ?_ ?_ ?_ ?_ ?_ ?_ ?_ ?_ ?_ ?_ ?_ e d) j).trans ?_
  · intro e i k; exact (block0 m c t e i k).trans (hn.h0 _ _)
  · intro k r d; exact (congrFun w1 _).trans ((congrFun (V_table m c) _).trans (table_at _ n.w0 hn.h1 k r d))
  · intro r k; exact (congrFun w2 _).trans (V_strip m c r k)
  · intro d; exact (congrFun w3 _).trans ((vr d).1.trans (hn.h2 d))
  · intro i k d
    refine (congrFun w4 _).trans ((V_weights m c i k d).trans ?_)
    rw [EReal.coe_mul]; exact congrArg (· * ((1 / 4 : ℝ) : EReal)) (hn.h3 i k d)
  · intro d
    refine (congrFun w5 _).trans ((V_bias m c d).trans ?_)
    rw [EReal.coe_mul]; exact congrArg (· * ((1 / 2 : ℝ) : EReal)) (hn.h4 d)
  · intro k d; exact (congrFun w6 _).trans ((congrFun (V_main_arg5 m c) _).trans (hn.h5 k d))
  · intro d; exact (congrFun w7 _).trans ((vr d).2.1.trans (hn.h6 d))
  · intro k d; exact (congrFun w8 _).trans ((congrFun (V_main_arg7 m c) _).trans (hn.h7 k d))
  · intro d; exact (congrFun w9 _).trans ((vr d).2.2.1.trans (hn.h8 d))
  · intro k d; exact (congrFun w10 _).trans ((congrFun (V_main_arg9 m c) _).trans (hn.h9 k d))
  · intro d; exact (congrFun w11 _).trans ((vr d).2.2.2.1.trans (hn.h10 d))
  · intro k d; exact (congrFun w12 _).trans ((congrFun (V_main_arg11 m c) _).trans (hn.h11 k d))
  · intro d; exact (congrFun w13 _).trans ((vr d).2.2.2.2.1.trans (hn.h12 d))
  · intro k d; exact (congrFun w14 _).trans ((V_attention m c k d).trans (hn.h13 k))
  · have g15 : ∀ k : Fin 128, (iblk m c 15 t : EV S1x128) (ix2 0 k) = (m ((c : Thread nD τ).loc main_arg15) : EV S128) (ix1 k) := fun k => (congrFun w15 _).trans (vr k).2.2.2.2.2.1
    have g16 : ∀ k : Fin 128, (iblk m c 16 t : EV S1x128) (ix2 0 k) = (m ((c : Thread nD τ).loc main_arg16) : EV S128) (ix1 k) := fun k => (congrFun w16 _).trans (vr k).2.2.2.2.2.2
    have g17 : ∀ (k : Fin 128) (j : Fin 256), (iblk m c 17 t : EV S128x256) (ix2 k j) = (m ((c : Thread nD τ).loc main_arg17) : EV S128x256) (ix2 k j) :=
      fun k j => (congrFun w17 _).trans (congrFun (V_main_arg17 m c) _)
    have g18 : ∀ j : Fin 256, (iblk m c 18 t : EV S1x256) (ix2 0 j) = (m ((c : Thread nD τ).loc main_arg18) : EV S256) (ix1 j) := fun j => (congrFun w18 _).trans (V_out m c j)
    simp only [g15, g16, g17, g18]
    rfl

/-- The kernel's result array after the run. -/
theorem final (n : Nums) (hn : Held m c n) : (dats m 0 c).arrAt 19 cfg0.N = result n (m ((c : Thread nD τ).loc main_arg15)) (m ((c : Thread nD τ).loc main_arg16)) (m ((c : Thread nD τ).loc main_arg17))
      (m ((c : Thread nD τ).loc main_arg18)) := by
  refine (dats m 0 c).arrAt_eq_of_covers 19 _ (by decide +kernel) fun t _ y => ?_
  blk_simp [idx t]
  rw [after0_19]
  have hy : y = (ix3 (y 0) 0 (y 2) : S4x1x256.Idx) := by
    funext a
    match a with
    | 0 => rfl
    | 1 => exact Subsingleton.elim (α := Fin 1) _ _
    | 2 => rfl
  refine (congrArg (out0_19 _ _ _ _ _ _ _ _ _ _ _ _ _ _ _ _ _ _ _) hy).trans ((point m c n hn t (y 0) (y 2)).trans ?_)
  refine congrArg (result n _ _ _ _) ?_
  funext a
  refine Fin.ext ?_
  match a with
  | 0 => blk_simp [idx t]; exact congrArg (· + _) (Nat.mul_comm _ _)
  | 1 => blk_simp [idx t]; rfl
  | 2 => blk_simp [idx t]

end Cert.Work

end
-- ==== Proof.RefFront.lean ====
/- The reference's convolutions, averages and graph, read at an index over the reals. -/
module

public import proofs.«01_k».proof.Proof.Gen.ReferenceIdeal.Read
public import proofs.«01_k».proof.Proof.Model
public import Idealize.ShloMosaic.Lib.Pointwise
public import Idealize.ShloMosaic.Lib.WordArith

@[expose] public section

set_option maxRecDepth 16384
set_option maxHeartbeats 2000000

noncomputable section

namespace Cert.Work

open Cert.ReferenceIdeal Cert.ReferenceIdeal.Gen Cert.ReferenceIdeal.Read Idealize.ShloMosaic Idealize.ShloMosaic.TcCoe

/-- An array of extended reals. -/
abbrev RV (s : Shape) := FVec Ideal s .f32

/-- The longer row at an index given in three pieces. -/
theorem pad_pieces (n : ℕ) (f : Fin n → ℝ) (k : ℕ) (hk : k < n + 2) :
    (if k < 1 then (0 : EReal) else if h : k - 1 < n then ((f ⟨k - 1, h⟩ : ℝ) : EReal) else 0) = (pad n f k : ℝ) := by
  unfold pad
  by_cases h1 : k < 1
  · rw [if_pos h1, dif_neg (by omega), EReal.coe_zero]
  · rw [if_neg h1]
    by_cases h2 : k - 1 < n
    · rw [dif_pos h2, dif_pos ⟨by omega, h2⟩]
    · rw [dif_neg h2, dif_neg (fun h => h2 h.2), EReal.coe_zero]

/-- A sequence with a zero at either end. -/
theorem padded0_at (x0 : RV S64x2048) (s : Fin 64 → Fin 2048 → ℝ) (h0 : ∀ b i, x0 (ix2 b i) = (s b i : ℝ)) (b : Fin 64) (p : Fin 2050) :
    val_main_v2 (F := Ideal) x0 (ix3 b p 0) = (pad 2048 (s b) p : ℝ) := by
  refine Eq.trans ?_ (pad_pieces 2048 (s b) p p.isLt)
  pointwise [val_main_v2, val_main_v1, val_main_cst, val_main_v0]
  simp only [h0, dite_eq_ite]

/-- The first convolution with its positive part. -/
theorem conv0_at (x0 : RV S64x2048) (x1 : RV S3x1x128) (x2 : RV S128) (s : Fin 64 → Fin 2048 → ℝ) (w : Fin 3 → Fin 128 → ℝ) (c : Fin 128 → ℝ)
    (h0 : ∀ b i, x0 (ix2 b i) = (s b i : ℝ)) (h1 : ∀ j d, x1 (ix3 j 0 d) = (w j d : ℝ)) (h2 : ∀ d, x2 (ix1 d) = (c d : ℝ))
    (b : Fin 64) (l : Fin 2048) (d : Fin 128) : val_main_v20 (F := Ideal) x0 x1 x2 (ix3 b l d) = (conv0 (s b) w c l d : ℝ) := by
  have hy := padded0_at x0 s h0 b
  unfold val_main_v20 val_main_v19 val_main_v16 val_main_v15 val_main_v12 val_main_v11 val_main_v10 val_main_v7 val_main_v6 val_main_v3
  generalize val_main_v2 (F := Ideal) x0 = y at hy
  pointwise [val_main_v14, val_main_v13, val_main_v9, val_main_v8, val_main_v5, val_main_v4, val_main_v17, val_main_v18, val_main_call0_v0, val_main_call0_cst]
  simp only [Fin.sum_univ_one, hy, h1, h2]
  unfold conv0
  push_cast
  simp only [Nat.add_comm 1, Nat.add_comm 2]

/-- The averages of neighbouring rows of the first convolution. -/
theorem halves0_at (x0 : RV S64x2048) (x1 : RV S3x1x128) (x2 : RV S128) (f : Fin 2048 → Fin 128 → ℝ) (b : Fin 64)
    (h : ∀ l d, val_main_v20 (F := Ideal) x0 x1 x2 (ix3 b l d) = (f l d : ℝ)) (l : Fin 1024) (d : Fin 128) :
    val_main_v24 (F := Ideal) x0 x1 x2 (ix3 b l d) = (halves 1024 f l d : ℝ) := by
  unfold val_main_v24 val_main_v22 val_main_v21
  generalize val_main_v20 (F := Ideal) x0 x1 x2 = y at h
  pointwise [val_main_cst_0, val_main_v23, val_main_cst_1]
  simp only [h, ← coe_sum]
  rw [bits_two, div_real _ _ two_ne_zero, halves, Fin.sum_univ_two]
  simp only [Fin.val_zero, Fin.val_one, add_zero, Nat.mul_comm 2]

/-- Rows with a row of zeros at either end. -/
theorem padded1_at (x0 : RV S64x2048) (x1 : RV S3x1x128) (x2 : RV S128) (f : Fin 1024 → Fin 128 → ℝ) (b : Fin 64)
    (h : ∀ l d, val_main_v24 (F := Ideal) x0 x1 x2 (ix3 b l d) = (f l d : ℝ)) (p : Fin 1026) (d : Fin 128) :
    val_main_v26 (F := Ideal) x0 x1 x2 (ix3 b p d) = (pad 1024 (fun i => f i d) p : ℝ) := by
  refine Eq.trans ?_ (pad_pieces 1024 (fun i => f i d) p p.isLt)
  unfold val_main_v26
  generalize val_main_v24 (F := Ideal) x0 x1 x2 = y at h
  pointwise [val_main_v25, val_main_cst_2]
  simp only [h, dite_eq_ite]

/-- The second convolution with its positive part. -/
theorem conv1_at (x0 : RV S64x2048) (x1 : RV S3x1x128) (x2 : RV S128) (x3 : RV S3x128x128) (x4 : RV S128) (f : Fin 1024 → Fin 128 → ℝ)
    (w : Fin 3 → Fin 128 → Fin 128 → ℝ) (c : Fin 128 → ℝ) (b : Fin 64)
    (h : ∀ l d, val_main_v24 (F := Ideal) x0 x1 x2 (ix3 b l d) = (f l d : ℝ)) (h3 : ∀ j k d, x3 (ix3 j k d) = (w j k d : ℝ))
    (h4 : ∀ d, x4 (ix1 d) = (c d : ℝ)) (l : Fin 1024) (d : Fin 128) :
    val_main_v44 (F := Ideal) x0 x1 x2 x3 x4 (ix3 b l d) = (conv1 f w c l d : ℝ) := by
  have hy := padded1_at x0 x1 x2 f b h
  unfold val_main_v44 val_main_v43 val_main_v40 val_main_v39 val_main_v36 val_main_v35 val_main_v34 val_main_v31 val_main_v30 val_main_v27
  generalize val_main_v26 (F := Ideal) x0 x1 x2 = y at hy
  pointwise [val_main_v38, val_main_v37, val_main_v33, val_main_v32, val_main_v29, val_main_v28, val_main_v42, val_main_v41, val_main_call1_v0, val_main_call1_cst]
  simp only [hy, h3, h4]
  unfold conv1
  push_cast
  simp only [Nat.add_comm 1, Nat.add_comm 2]

/-- The averages of neighbouring rows of the second convolution. -/
theorem halves1_at (x0 : RV S64x2048) (x1 : RV S3x1x128) (x2 : RV S128) (x3 : RV S3x128x128) (x4 : RV S128) (f : Fin 1024 → Fin 128 → ℝ) (b : Fin 64)
    (h : ∀ l d, val_main_v44 (F := Ideal) x0 x1 x2 x3 x4 (ix3 b l d) = (f l d : ℝ)) (l : Fin 512) (d : Fin 128) :
    val_main_v48 (F := Ideal) x0 x1 x2 x3 x4 (ix3 b l d) = (halves 512 f l d : ℝ) := by
  unfold val_main_v48 val_main_v46 val_main_v45
  generalize val_main_v44 (F := Ideal) x0 x1 x2 x3 x4 = y at h
  pointwise [val_main_cst_3, val_main_v47, val_main_cst_4]
  simp only [h, ← coe_sum]
  rw [bits_two, div_real _ _ two_ne_zero, halves, Fin.sum_univ_two]
  simp only [Fin.val_zero, Fin.val_one, add_zero, Nat.mul_comm 2]

/-- The absolute value of a difference of small words, as a word. -/
theorem dist_word (i j : ℕ) (hi : i < 512) (hj : j < 512) :
    IntOp.absi (IntOp.subi (BitVec.ofNat 32 i) (BitVec.ofNat 32 j)) = BitVec.ofNat 32 (max i j - min i j) := by
  unfold IntOp.absi IntOp.subi
  apply BitVec.eq_of_toNat_eq
  rw [BitVec.msb_eq_decide]
  rcases le_or_gt j i with h | h
  · rw [if_neg (by simp [BitVec.toNat_sub]; omega), max_eq_left h, min_eq_right h]
    simp [BitVec.toNat_sub]; omega
  · rw [if_pos (by simp [BitVec.toNat_sub]; omega), max_eq_right h.le, min_eq_left h.le]
    simp [BitVec.toNat_sub]; omega

/-- The graph's mask: one where two indices are at most fifteen apart. -/
theorem near_word (i j : ℕ) (hi : i < 512) (hj : j < 512) :
    (((IntOp.cmpi CmpIPredicate.sle (IntOp.absi (IntOp.subi (BitVec.ofNat 32 i) (BitVec.ofNat 32 j))) 15#32).toNat : ℝ) : EReal)
      = ((if near i j then 1 else 0 : ℝ) : EReal) := by
  rw [dist_word i j hi hj]
  have hb : IntOp.cmpi CmpIPredicate.sle (BitVec.ofNat 32 (max i j - min i j)) 15#32 = BitVec.ofBool (decide (near i j)) := by
    refine congrArg BitVec.ofBool ?_
    show BitVec.sle _ _ = _
    rw [BitVec.sle_eq_decide, WordArith.toInt_ofNat_small _ (by omega)]
    refine decide_eq_decide.2 ?_
    show ((max i j - min i j : ℕ) : ℤ) ≤ 15 ↔ _
    omega
  rw [hb]
  by_cases h : near i j
  · rw [decide_eq_true h, if_pos h]; simp
  · rw [decide_eq_false h, if_neg h]; simp

/-- The mask at an index. -/
theorem mask_at (i j : Fin 512) : val_main_v58 (F := Ideal) (ix2 i j) = ((if near i j then 1 else 0 : ℝ) : EReal) := by
  pointwise [val_main_v58, val_main_v57, val_main_v56, val_main_c, val_main_v55, val_main_v54, val_main_v53, val_main_v52, val_main_v51, val_main_v50, val_main_v49]
  exact near_word i j i.isLt j.isLt

/-- The factor of a row. -/
theorem fac_at (i : Fin 512) : val_main_v62 (F := Ideal) (ix1 i) = (fac i : ℝ) := by
  have h := mask_at i
  unfold val_main_v62 val_main_v60 val_main_v59
  generalize val_main_v58 (F := Ideal) = y at h
  pointwise [val_main_v61, val_main_cst_5, val_main_cst_6]
  simp only [h, ← coe_sum]
  change Ideal.div 1 (Ideal.sqrt ((deg i : ℝ) : EReal)) = _
  rw [sqrt_nonneg _ (deg_pos i).le, ← EReal.coe_one, div_real _ _ (Real.sqrt_pos.2 (deg_pos i)).ne', fac, one_div]

/-- The entries of the normalised graph. -/
theorem adj_at (i j : Fin 512) : val_main_v68 (F := Ideal) (ix2 i j) = (adj i j : ℝ) := by
  have h := mask_at i
  have hf := fac_at
  unfold val_main_v68 val_main_v67 val_main_v66 val_main_v65 val_main_v64 val_main_v63
  generalize val_main_v58 (F := Ideal) = y at h
  generalize val_main_v62 (F := Ideal) = z at hf
  pointwise []
  rw [h, hf, hf, ← EReal.coe_mul, ← EReal.coe_mul, adj]

end Cert.Work

end
-- ==== Proof.RefLayers.lean ====
/- The reference's layers, attention average and classifier, read at an index over the reals. -/
module

public import proofs.«01_k».proof.Proof.RefFront

@[expose] public section

set_option maxRecDepth 16384
set_option maxHeartbeats 2000000

noncomputable section

namespace Cert.Work

open Cert.ReferenceIdeal Cert.ReferenceIdeal.Gen Cert.ReferenceIdeal.Read Idealize.ShloMosaic Idealize.ShloMosaic.TcCoe

/-- The linear unit's argument in a layer. -/
def refMix (A : RV S512x512) (x : RV S64x512x128) (w : RV S128x128) (b : RV S128) : RV S64x512x128 :=
  addf (Host.dotGeneral dot_S64x512x128_S128x128_S64x512x128_2_0_01_1_n_n none
      (transpose S64x512x128 [0, 2, 1] (Host.dotGeneral dot_S64x512x128_S512x512_S64x128x512_1_1_02_0_n_n none x A) transposes_S64x128x512_S64x512x128_0_2_1) w)
    (broadcastInDim S64x512x128 ![0, 1, 2] bcast_S1x1x128_S64x512x128_0_1_2 (broadcastInDim S1x1x128 ![2] bcast_S128_S1x1x128_2 b))

/-- One layer of the reference. -/
def refLayer (A : RV S512x512) (x : RV S64x512x128) (w : RV S128x128) (b : RV S128) : RV S64x512x128 :=
  addf x (mulf (mulf (broadcastInDim S64x512x128 ![] bcast_S_S64x512x128 (constant S_ .f32 0x3F000000#32)) (refMix A x w b))
    (Host.erfc (mulf (Host.negf (refMix A x w b)) (broadcastInDim S64x512x128 ![] bcast_S_S64x512x128 (constant S_ .f32 0x3F3504F3#32)))))

/-- The mean of each row. -/
def refMean (p : RV S64x128) : RV S64x1 :=
  Host.divf (broadcastInDim S64x1 ![0] bcast_S64_S64x1_0 (Host.reduceAdd p (constant S_ .f32 0x00000000#32) reducesTo_S64x128_S64_d1 h_S_))
    (broadcastInDim S64x1 ![] bcast_S_S64x1 (constant S_ .f32 0x43000000#32))

/-- Each row less its mean. -/
def refCentred (p : RV S64x128) : RV S64x128 := subf p (broadcastInDim S64x128 ![0, 1] bcast_S64x1_S64x128_0_1 (refMean p))

/-- The number of entries of a row, less the correction of zero. -/
def refCount : RV S_ := subf (constant S_ .f32 0x43000000#32) (sitofp .f32 (val_main_c_20 (F := Ideal)))

/-- The variance of each row. -/
def refVar (p : RV S64x128) : RV S64x1 :=
  select (broadcastInDim S64x1 ![] bcast_S_S64x1 (cmpf .ogt refCount (constant S_ .f32 0x00000000#32) : Vec Ideal S_ .i1))
    (Host.divf (broadcastInDim S64x1 ![0] bcast_S64_S64x1_0 (Host.reduceAdd (mulf (refCentred p) (refCentred p)) (constant S_ .f32 0x00000000#32) reducesTo_S64x128_S64_d1 h_S_))
      (broadcastInDim S64x1 ![] bcast_S_S64x1 refCount))
    (broadcastInDim S64x1 ![] bcast_S_S64x1 (constant S_ .f32 0x7FC00000#32))

/-- Each row normalised. -/
def refNormed (p : RV S64x128) : RV S64x128 :=
  Host.divf (refCentred p) (broadcastInDim S64x128 ![0, 1] bcast_S64x1_S64x128_0_1
    (Host.sqrt (addf (refVar p) (broadcastInDim S64x1 ![] bcast_S_S64x1 (constant S_ .f32 0x358637BD#32)))))

variable (x0 : RV S64x2048) (x1 : RV S3x1x128) (x2 : RV S128) (x3 : RV S3x128x128) (x4 : RV S128) (x5 : RV S128x128) (x6 : RV S128)
  (x7 : RV S128x128) (x8 : RV S128) (x9 : RV S128x128) (x10 : RV S128) (x11 : RV S128x128) (x12 : RV S128) (x13 : RV S128x1) (x14 : RV S1)

/-- The first layer. -/
theorem layer0_eq : val_main_v82 (F := Ideal) x0 x1 x2 x3 x4 x5 x6 = refLayer (val_main_v68 (F := Ideal)) (val_main_v48 (F := Ideal) x0 x1 x2 x3 x4) x5 x6 := rfl
/-- The second layer. -/
theorem layer1_eq : val_main_v96 (F := Ideal) x0 x1 x2 x3 x4 x5 x6 x7 x8 = refLayer (val_main_v68 (F := Ideal)) (val_main_v82 (F := Ideal) x0 x1 x2 x3 x4 x5 x6) x7 x8 := rfl
/-- The third layer. -/
theorem layer2_eq : val_main_v110 (F := Ideal) x0 x1 x2 x3 x4 x5 x6 x7 x8 x9 x10 = refLayer (val_main_v68 (F := Ideal)) (val_main_v96 (F := Ideal) x0 x1 x2 x3 x4 x5 x6 x7 x8) x9 x10 := rfl
/-- The fourth layer. -/
theorem layer3_eq : val_main_v124 (F := Ideal) x0 x1 x2 x3 x4 x5 x6 x7 x8 x9 x10 x11 x12
    = refLayer (val_main_v68 (F := Ideal)) (val_main_v110 (F := Ideal) x0 x1 x2 x3 x4 x5 x6 x7 x8 x9 x10) x11 x12 := rfl
/-- The normalised average. -/
theorem normed_eq : val_main_v153 (F := Ideal) x0 x1 x2 x3 x4 x5 x6 x7 x8 x9 x10 x11 x12 x13 x14
    = refNormed (val_main_v141 (F := Ideal) x0 x1 x2 x3 x4 x5 x6 x7 x8 x9 x10 x11 x12 x13 x14) := rfl

/-- One layer at an index. -/
theorem refLayer_at (A : RV S512x512) (x : RV S64x512x128) (w : RV S128x128) (b : RV S128) (f : Fin 512 → Fin 128 → ℝ)
    (wr : Fin 128 → Fin 128 → ℝ) (br : Fin 128 → ℝ) (e : Fin 64) (hA : ∀ i j, A (ix2 i j) = (adj i j : ℝ))
    (hx : ∀ i d, x (ix3 e i d) = (f i d : ℝ)) (hw : ∀ k d, w (ix2 k d) = (wr k d : ℝ)) (hb : ∀ d, b (ix1 d) = (br d : ℝ)) (i : Fin 512) (d : Fin 128) :
    refLayer A x w b (ix3 e i d) = (layerR rootHalf wr br f i d : ℝ) := by
  have hm : refMix A x w b (ix3 e i d) = ((∑ k, (∑ j, adj i j * f j k) * wr k d + br d : ℝ) : EReal) := by
    pointwise [refMix]
    simp only [hx, hA, hw, hb]
    push_cast
    simp only [mul_comm]
  unfold refLayer
  generalize refMix A x w b = h at hm
  pointwise []
  rw [hx, hm, bits_half, bits_rootHalf, neg_mul, Ideal.erfc_neg, ← EReal.coe_mul, ← EReal.coe_mul, erf_real, layerR, geluR]
  push_cast
  rfl

/-- The attention average. -/
theorem refPooled_at (f : Fin 512 → Fin 128 → ℝ) (ar : Fin 128 → ℝ) (r : ℝ) (b : Fin 64)
    (hx : ∀ i d, val_main_v124 (F := Ideal) x0 x1 x2 x3 x4 x5 x6 x7 x8 x9 x10 x11 x12 (ix3 b i d) = (f i d : ℝ))
    (ha : ∀ k, x13 (ix2 k 0) = (ar k : ℝ)) (hr : x14 (ix1 0) = (r : ℝ)) (d : Fin 128) :
    val_main_v141 (F := Ideal) x0 x1 x2 x3 x4 x5 x6 x7 x8 x9 x10 x11 x12 x13 x14 (ix2 b d) = (pooledR f (scoreR f ar) d : ℝ) := by
  have hs : ∀ i, val_main_v129 (F := Ideal) x0 x1 x2 x3 x4 x5 x6 x7 x8 x9 x10 x11 x12 x13 x14 (ix2 b i) = ((scoreR f ar i + r : ℝ) : EReal) := by
    intro i
    unfold val_main_v129 val_main_v128 val_main_v125
    generalize val_main_v124 (F := Ideal) x0 x1 x2 x3 x4 x5 x6 x7 x8 x9 x10 x11 x12 = x at hx
    pointwise [val_main_v127, val_main_v126]
    simp only [hx, ha, hr, scoreR]
    push_cast
    rfl
  obtain ⟨M, hM⟩ := fold_max_coe (fun i => scoreR f ar i + r)
  have hw : ∀ i, val_main_v136 (F := Ideal) x0 x1 x2 x3 x4 x5 x6 x7 x8 x9 x10 x11 x12 x13 x14 (ix2 b i) = ((Real.exp (scoreR f ar i + (r - M)) : ℝ) : EReal) := by
    intro i
    unfold val_main_v136 val_main_v135 val_main_v134 val_main_v133 val_main_v132 val_main_v130
    generalize val_main_v129 (F := Ideal) x0 x1 x2 x3 x4 x5 x6 x7 x8 x9 x10 x11 x12 x13 x14 = s at hs
    pointwise [val_main_v131, val_main_cst_15, val_main_cst_16]
    simp only [hs]
    rw [bits_bot, hM, max_bot_left, ← EReal.coe_sub, Ideal.exp_coe, add_sub_assoc]
  unfold val_main_v141 val_main_v140 val_main_v139 val_main_v138 val_main_v137
  generalize val_main_v136 (F := Ideal) x0 x1 x2 x3 x4 x5 x6 x7 x8 x9 x10 x11 x12 x13 x14 = e at hw
  generalize val_main_v124 (F := Ideal) x0 x1 x2 x3 x4 x5 x6 x7 x8 x9 x10 x11 x12 = x at hx
  pointwise [val_main_cst_17]
  simp only [hw, hx, ← coe_sum]
  simp only [div_real _ _ (sum_exp_pos (fun i => scoreR f ar i + (r - M))).ne', ← EReal.coe_mul, ← coe_sum]
  rw [← pooledR_shift f (scoreR f ar) (r - M) d, pooledR, Finset.sum_div]
  exact congrArg _ (Finset.sum_congr rfl fun i _ => div_mul_eq_mul_div _ _ _)

/-- The mean at an index. -/
theorem refMean_at (p : RV S64x128) (f : Fin 128 → ℝ) (b : Fin 64) (h : ∀ d, p (ix2 b d) = (f d : ℝ)) : refMean p (ix2 b 0) = (meanR f : ℝ) := by
  pointwise [refMean]
  simp only [h, ← coe_sum]
  rw [bits_cols, div_real _ _ (by norm_num), meanR]

/-- The count is 128. -/
theorem refCount_at (i : S_.Idx) : refCount i = ((128 : ℝ) : EReal) := by
  unfold refCount
  show (Ideal.ofBits .f32 0x43000000#32 : EReal) - ((((0x0#32 : BitVec 32).toInt : ℝ)) : EReal) = _
  rw [bits_cols]; simp

/-- The row less its mean, at an index. -/
theorem refCentred_at (p : RV S64x128) (f : Fin 128 → ℝ) (b : Fin 64) (h : ∀ d, p (ix2 b d) = (f d : ℝ)) (d : Fin 128) :
    refCentred p (ix2 b d) = ((f d - meanR f : ℝ) : EReal) := by
  have hm := refMean_at p f b h
  unfold refCentred
  generalize refMean p = q at hm
  pointwise []
  rw [h, hm, EReal.coe_sub]

/-- The variance at an index. -/
theorem refVar_at (p : RV S64x128) (f : Fin 128 → ℝ) (b : Fin 64) (h : ∀ d, p (ix2 b d) = (f d : ℝ)) :
    refVar p (ix2 b 0) = (meanR (fun e => (f e - meanR f) * (f e - meanR f)) : ℝ) := by
  have hc := refCentred_at p f b h
  have hn := refCount_at
  unfold refVar
  generalize refCentred p = u at hc
  generalize refCount = n at hn
  pointwise []
  rw [hn, if_pos (by exact_mod_cast (by norm_num : (0 : ℝ) < 128))]
  simp only [hc, ← EReal.coe_mul, ← coe_sum]
  rw [div_real _ _ (by norm_num)]
  rfl

/-- The row normalised, at an index. -/
theorem refNormed_at (p : RV S64x128) (f : Fin 128 → ℝ) (b : Fin 64) (h : ∀ d, p (ix2 b d) = (f d : ℝ)) (d : Fin 128) :
    refNormed p (ix2 b d) = (normR epsR f d : ℝ) := by
  have hc := refCentred_at p f b h
  have hv := refVar_at p f b h
  have hpos : 0 < meanR (fun e => (f e - meanR f) * (f e - meanR f)) + epsR :=
    add_pos_of_nonneg_of_pos (div_nonneg (Finset.sum_nonneg fun e _ => mul_self_nonneg _) (by norm_num)) epsR_pos
  unfold refNormed
  generalize refCentred p = u at hc
  generalize refVar p = q at hv
  pointwise []
  rw [hc, hv, bits_eps, ← EReal.coe_add, sqrt_nonneg _ hpos.le, div_real _ _ (Real.sqrt_pos.2 hpos).ne', normR, div_eq_mul_inv]

/-- The reference's result at an index. -/
theorem ref_at (x15 x16 : RV S128) (x17 : RV S128x256) (x18 : RV S256) (n : Nums)
    (h0 : ∀ b i, x0 (ix2 b i) = (n.s b i : ℝ)) (h1 : ∀ j d, x1 (ix3 j 0 d) = (n.w0 j d : ℝ)) (h2 : ∀ d, x2 (ix1 d) = (n.b0 d : ℝ))
    (h3 : ∀ j k d, x3 (ix3 j k d) = (n.w1 j k d : ℝ)) (h4 : ∀ d, x4 (ix1 d) = (n.b1 d : ℝ))
    (h5 : ∀ k d, x5 (ix2 k d) = (n.g 0 k d : ℝ)) (h6 : ∀ d, x6 (ix1 d) = (n.h 0 d : ℝ))
    (h7 : ∀ k d, x7 (ix2 k d) = (n.g 1 k d : ℝ)) (h8 : ∀ d, x8 (ix1 d) = (n.h 1 d : ℝ))
    (h9 : ∀ k d, x9 (ix2 k d) = (n.g 2 k d : ℝ)) (h10 : ∀ d, x10 (ix1 d) = (n.h 2 d : ℝ))
    (h11 : ∀ k d, x11 (ix2 k d) = (n.g 3 k d : ℝ)) (h12 : ∀ d, x12 (ix1 d) = (n.h 3 d : ℝ))
    (h13 : ∀ k, x13 (ix2 k 0) = (n.a k : ℝ)) (h14 : x14 (ix1 0) = (n.a0 : ℝ)) (b : Fin 64) (j : Fin 256) :
    val_main_v164 (F := Ideal) x0 x1 x2 x3 x4 x5 x6 x7 x8 x9 x10 x11 x12 x13 x14 x15 x16 x17 x18 (ix3 b 0 j)
      = n.out (fun k => x15 (ix1 k)) (fun k => x16 (ix1 k)) (fun k j => x17 (ix2 k j)) (fun j => x18 (ix1 j)) b j := by
  have e0 := halves1_at x0 x1 x2 x3 x4 _ b (conv1_at x0 x1 x2 x3 x4 _ n.w1 n.b1 b (halves0_at x0 x1 x2 _ b (conv0_at x0 x1 x2 n.s n.w0 n.b0 h0 h1 h2 b)) h3 h4)
  have e1 := fun i d => (congrFun (layer0_eq x0 x1 x2 x3 x4 x5 x6) _).trans (refLayer_at _ _ x5 x6 _ (n.g 0) (n.h 0) b adj_at e0 h5 h6 i d)
  have e2 := fun i d => (congrFun (layer1_eq x0 x1 x2 x3 x4 x5 x6 x7 x8) _).trans (refLayer_at _ _ x7 x8 _ (n.g 1) (n.h 1) b adj_at e1 h7 h8 i d)
  have e3 := fun i d => (congrFun (layer2_eq x0 x1 x2 x3 x4 x5 x6 x7 x8 x9 x10) _).trans (refLayer_at _ _ x9 x10 _ (n.g 2) (n.h 2) b adj_at e2 h9 h10 i d)
  have e4 := fun i d => (congrFun (layer3_eq x0 x1 x2 x3 x4 x5 x6 x7 x8 x9 x10 x11 x12) _).trans (refLayer_at _ _ x11 x12 _ (n.g 3) (n.h 3) b adj_at e3 h11 h12 i d)
  have e5 := refPooled_at x0 x1 x2 x3 x4 x5 x6 x7 x8 x9 x10 x11 x12 x13 x14 _ n.a n.a0 b e4 h13 h14
  have e6 : ∀ d, val_main_v153 (F := Ideal) x0 x1 x2 x3 x4 x5 x6 x7 x8 x9 x10 x11 x12 x13 x14 (ix2 b d) = (normR epsR (n.pooled b) d : ℝ) :=
    fun d => (congrFun (normed_eq x0 x1 x2 x3 x4 x5 x6 x7 x8 x9 x10 x11 x12 x13 x14) _).trans (refNormed_at _ _ b e5 d)
  unfold val_main_v164 val_main_v163 val_main_v160 val_main_v159 val_main_v156
  generalize val_main_v153 (F := Ideal) x0 x1 x2 x3 x4 x5 x6 x7 x8 x9 x10 x11 x12 x13 x14 = u at e6
  pointwise [val_main_v155, val_main_v154, val_main_v158, val_main_v157, val_main_v162, val_main_v161]
  simp only [e6]
  rfl

end Cert.Work

end
-- ==== Proof.Finite.lean ====
/- The precondition read: every entry of the first fifteen arguments is a real number. -/
module

public import proofs.«01_k».proof.Pre_finite
public import proofs.«01_k».proof.Proof.Model
public import Idealize.ShloMosaic.Lib.Pointwise

@[expose] public section

set_option maxRecDepth 16384
set_option maxHeartbeats 2000000

noncomputable section

namespace Cert.Work

open Cert.Pre_finite Idealize.ShloMosaic Idealize.ShloMosaic.TcCoe

/-- The shape relations of the precondition. -/
theorem finite_facts : Cert.Pre_finite.Facts := ⟨by decide, by decide, by decide, by decide, by decide, by decide, by decide⟩

/-- An extended real whose absolute value is less than infinity is a real number. -/
theorem real_of_abs (x : EReal) (h : Ideal.cmp .olt (max x (-x)) (Ideal.ofBits .f32 0x7F800000#32) = 1#1) : ∃ r : ℝ, x = (r : EReal) := by
  rw [bits_top] at h
  induction x with
  | bot => exact absurd h (by simp [Ideal.cmp])
  | coe r => exact ⟨r, rfl⟩
  | top => exact absurd h (by simp [Ideal.cmp])

/-- An array whose entries' absolute values are less than infinity holds real numbers. -/
theorem reals_of_finite {s : Shape} (x : FVec Ideal s .f32) (hb : S_.BroadcastsInDim s (![] : Fin 0 → Fin s.rank))
    (h : cmpf .olt (Host.absf x) (broadcastInDim s ![] hb (constant S_ .f32 0x7F800000#32)) = fun _ => 1#1) : ∃ f : s.Idx → ℝ, ∀ i, x i = (f i : EReal) := by
  have : ∀ i, ∃ r : ℝ, x i = (r : EReal) := fun i => by
    exact real_of_abs (x i) (congrFun h i)
  choose f hf using this
  exact ⟨f, hf⟩

end Cert.Work

end
-- ==== Proof.Meet.lean ====
/- The two results meet: the precondition gives the numbers, and with them the reference's result is the kernel's. -/
module

public import proofs.«01_k».proof.Proof.Bridge
public import proofs.«01_k».proof.Proof.RefLayers
public import proofs.«01_k».proof.Proof.Finite

@[expose] public section

set_option maxRecDepth 16384
set_option maxHeartbeats 2000000

noncomputable section

namespace Cert.Work

open Cert.KernelIdeal Idealize.ShloMosaic Idealize.ShloMosaic.TcCoe

/-- Fifteen arrays of reals hold some numbers in the sense of `Hold`. -/
theorem hold_of_reals (x0 : EV S64x2048) (x1 : EV S3x1x128) (x2 : EV S128) (x3 : EV S3x128x128) (x4 : EV S128) (x5 : EV S128x128) (x6 : EV S128) (x7 : EV S128x128) (x8 : EV S128) (x9 : EV S128x128) (x10 : EV S128) (x11 : EV S128x128) (x12 : EV S128) (x13 : EV S128x1) (x14 : EV S1)
    (h0 : ∃ f : S64x2048.Idx → ℝ, ∀ i, x0 i = (f i : EReal))
    (h1 : ∃ f : S3x1x128.Idx → ℝ, ∀ i, x1 i = (f i : EReal))
    (h2 : ∃ f : S128.Idx → ℝ, ∀ i, x2 i = (f i : EReal))
    (h3 : ∃ f : S3x128x128.Idx → ℝ, ∀ i, x3 i = (f i : EReal))
    (h4 : ∃ f : S128.Idx → ℝ, ∀ i, x4 i = (f i : EReal))
    (h5 : ∃ f : S128x128.Idx → ℝ, ∀ i, x5 i = (f i : EReal))
    (h6 : ∃ f : S128.Idx → ℝ, ∀ i, x6 i = (f i : EReal))
    (h7 : ∃ f : S128x128.Idx → ℝ, ∀ i, x7 i = (f i : EReal))
    (h8 : ∃ f : S128.Idx → ℝ, ∀ i, x8 i = (f i : EReal))
    (h9 : ∃ f : S128x128.Idx → ℝ, ∀ i, x9 i = (f i : EReal))
    (h10 : ∃ f : S128.Idx → ℝ, ∀ i, x10 i = (f i : EReal))
    (h11 : ∃ f : S128x128.Idx → ℝ, ∀ i, x11 i = (f i : EReal))
    (h12 : ∃ f : S128.Idx → ℝ, ∀ i, x12 i = (f i : EReal))
    (h13 : ∃ f : S128x1.Idx → ℝ, ∀ i, x13 i = (f i : EReal))
    (h14 : ∃ f : S1.Idx → ℝ, ∀ i, x14 i = (f i : EReal))
    : ∃ n : Nums, Hold n x0 x1 x2 x3 x4 x5 x6 x7 x8 x9 x10 x11 x12 x13 x14 := by
  obtain ⟨f0, h0⟩ := h0
  obtain ⟨f1, h1⟩ := h1
  obtain ⟨f2, h2⟩ := h2
  obtain ⟨f3, h3⟩ := h3
  obtain ⟨f4, h4⟩ := h4
  obtain ⟨f5, h5⟩ := h5
  obtain ⟨f6, h6⟩ := h6
  obtain ⟨f7, h7⟩ := h7
  obtain ⟨f8, h8⟩ := h8
  obtain ⟨f9, h9⟩ := h9
  obtain ⟨f10, h10⟩ := h10
  obtain ⟨f11, h11⟩ := h11
  obtain ⟨f12, h12⟩ := h12
  obtain ⟨f13, h13⟩ := h13
  obtain ⟨f14, h14⟩ := h14
  refine ⟨{ s := fun b i => f0 (ix2 b i), w0 := fun j d => f1 (ix3 j 0 d), b0 := fun d => f2 (ix1 d), w1 := fun j k d => f3 (ix3 j k d),
            b1 := fun d => f4 (ix1 d),
            g := ![fun k d => f5 (ix2 k d), fun k d => f7 (ix2 k d), fun k d => f9 (ix2 k d), fun k d => f11 (ix2 k d)],
            h := ![fun d => f6 (ix1 d), fun d => f8 (ix1 d), fun d => f10 (ix1 d), fun d => f12 (ix1 d)],
            a := fun k => f13 (ix2 k 0), a0 := f14 (ix1 0) }, ?_⟩
  exact ⟨fun _ _ => h0 _, fun _ _ => h1 _, fun _ => h2 _, fun _ _ _ => h3 _, fun _ => h4 _, fun _ _ => h5 _, fun _ => h6 _, fun _ _ => h7 _,
    fun _ => h8 _, fun _ _ => h9 _, fun _ => h10 _, fun _ _ => h11 _, fun _ => h12 _, fun _ => h13 _, h14 _⟩

/-- The precondition on fifteen arrays gives the numbers they hold. -/
theorem hold_of_finite (x0 : EV S64x2048) (x1 : EV S3x1x128) (x2 : EV S128) (x3 : EV S3x128x128) (x4 : EV S128) (x5 : EV S128x128) (x6 : EV S128) (x7 : EV S128x128) (x8 : EV S128) (x9 : EV S128x128) (x10 : EV S128) (x11 : EV S128x128) (x12 : EV S128) (x13 : EV S128x1) (x14 : EV S1)
    (x15 x16 : EV S128) (x17 : EV S128x256) (x18 : EV S256)
    (h : letI := finite_facts
      let p := Cert.Pre_finite.fn (F := Ideal) x0 x1 x2 x3 x4 x5 x6 x7 x8 x9 x10 x11 x12 x13 x14 x15 x16 x17 x18
      p.1 = (fun _ => 1#1) ∧ p.2.1 = (fun _ => 1#1) ∧ p.2.2.1 = (fun _ => 1#1) ∧ p.2.2.2.1 = (fun _ => 1#1) ∧ p.2.2.2.2.1 = (fun _ => 1#1) ∧ p.2.2.2.2.2.1 = (fun _ => 1#1) ∧ p.2.2.2.2.2.2.1 = (fun _ => 1#1) ∧ p.2.2.2.2.2.2.2.1 = (fun _ => 1#1) ∧ p.2.2.2.2.2.2.2.2.1 = (fun _ => 1#1) ∧ p.2.2.2.2.2.2.2.2.2.1 = (fun _ => 1#1) ∧ p.2.2.2.2.2.2.2.2.2.2.1 = (fun _ => 1#1) ∧ p.2.2.2.2.2.2.2.2.2.2.2.1 = (fun _ => 1#1) ∧ p.2.2.2.2.2.2.2.2.2.2.2.2.1 = (fun _ => 1#1) ∧ p.2.2.2.2.2.2.2.2.2.2.2.2.2.1 = (fun _ => 1#1) ∧ p.2.2.2.2.2.2.2.2.2.2.2.2.2.2 = (fun _ => 1#1))
    : ∃ n : Nums, Hold n x0 x1 x2 x3 x4 x5 x6 x7 x8 x9 x10 x11 x12 x13 x14 := by
  obtain ⟨h0, h1, h2, h3, h4, h5, h6, h7, h8, h9, h10, h11, h12, h13, h14⟩ := h
  exact hold_of_reals x0 x1 x2 x3 x4 x5 x6 x7 x8 x9 x10 x11 x12 x13 x14
    (reals_of_finite x0 finite_facts.bcast_S_S64x2048 h0)
    (reals_of_finite x1 finite_facts.bcast_S_S3x1x128 h1)
    (reals_of_finite x2 finite_facts.bcast_S_S128 h2)
    (reals_of_finite x3 finite_facts.bcast_S_S3x128x128 h3)
    (reals_of_finite x4 finite_facts.bcast_S_S128 h4)
    (reals_of_finite x5 finite_facts.bcast_S_S128x128 h5)
    (reals_of_finite x6 finite_facts.bcast_S_S128 h6)
    (reals_of_finite x7 finite_facts.bcast_S_S128x128 h7)
    (reals_of_finite x8 finite_facts.bcast_S_S128 h8)
    (reals_of_finite x9 finite_facts.bcast_S_S128x128 h9)
    (reals_of_finite x10 finite_facts.bcast_S_S128 h10)
    (reals_of_finite x11 finite_facts.bcast_S_S128x128 h11)
    (reals_of_finite x12 finite_facts.bcast_S_S128 h12)
    (reals_of_finite x13 finite_facts.bcast_S_S128x1 h13)
    (reals_of_finite x14 finite_facts.bcast_S_S1 h14)

/-- The reference's result is `result` of the same numbers. -/
theorem ref_result (n : Nums) (x0 : EV S64x2048) (x1 : EV S3x1x128) (x2 : EV S128) (x3 : EV S3x128x128) (x4 : EV S128) (x5 : EV S128x128) (x6 : EV S128) (x7 : EV S128x128) (x8 : EV S128) (x9 : EV S128x128) (x10 : EV S128) (x11 : EV S128x128) (x12 : EV S128) (x13 : EV S128x1) (x14 : EV S1)
    (x15 x16 : EV S128) (x17 : EV S128x256) (x18 : EV S256) (hn : Hold n x0 x1 x2 x3 x4 x5 x6 x7 x8 x9 x10 x11 x12 x13 x14) :
    Cert.ReferenceIdeal.Read.val_main_v164 (F := Ideal) x0 x1 x2 x3 x4 x5 x6 x7 x8 x9 x10 x11 x12 x13 x14 x15 x16 x17 x18 = result n x15 x16 x17 x18 := by
  funext i
  have hi : i = (ix3 (i 0) 0 (i 2) : S64x1x256.Idx) := by
    funext a
    match a with
    | 0 => rfl
    | 1 => exact Subsingleton.elim (α := Fin 1) _ _
    | 2 => rfl
  refine (congrArg _ hi).trans ?_
  exact ref_at x0 x1 x2 x3 x4 x5 x6 x7 x8 x9 x10 x11 x12 x13 x14 x15 x16 x17 x18 n hn.h0 hn.h1 hn.h2 hn.h3 hn.h4 hn.h5 hn.h6 hn.h7 hn.h8 hn.h9 hn.h10 hn.h11 hn.h12 hn.h13 hn.h14 (i 0) (i 2)

/-- The same for arrays equal to the kernel's arguments. -/
theorem ref_result_of (n : Nums) {x0 : EV S64x2048} {x1 : EV S3x1x128} {x2 : EV S128} {x3 : EV S3x128x128} {x4 : EV S128} {x5 : EV S128x128} {x6 : EV S128} {x7 : EV S128x128} {x8 : EV S128} {x9 : EV S128x128} {x10 : EV S128} {x11 : EV S128x128} {x12 : EV S128} {x13 : EV S128x1} {x14 : EV S1}
    {x15 x16 : EV S128} {x17 : EV S128x256} {x18 : EV S256} {y0 : EV S64x2048} {y1 : EV S3x1x128} {y2 : EV S128} {y3 : EV S3x128x128} {y4 : EV S128} {y5 : EV S128x128} {y6 : EV S128} {y7 : EV S128x128} {y8 : EV S128} {y9 : EV S128x128} {y10 : EV S128} {y11 : EV S128x128} {y12 : EV S128} {y13 : EV S128x1} {y14 : EV S1}
    {y15 y16 : EV S128} {y17 : EV S128x256} {y18 : EV S256} (e0 : y0 = x0) (e1 : y1 = x1) (e2 : y2 = x2) (e3 : y3 = x3) (e4 : y4 = x4) (e5 : y5 = x5) (e6 : y6 = x6) (e7 : y7 = x7) (e8 : y8 = x8) (e9 : y9 = x9) (e10 : y10 = x10) (e11 : y11 = x11) (e12 : y12 = x12) (e13 : y13 = x13) (e14 : y14 = x14) (e15 : y15 = x15) (e16 : y16 = x16) (e17 : y17 = x17) (e18 : y18 = x18)
    (hn : Hold n x0 x1 x2 x3 x4 x5 x6 x7 x8 x9 x10 x11 x12 x13 x14) :
    Cert.ReferenceIdeal.Read.val_main_v164 (F := Ideal) y0 y1 y2 y3 y4 y5 y6 y7 y8 y9 y10 y11 y12 y13 y14 y15 y16 y17 y18 = result n x15 x16 x17 x18 := by
  rw [e0, e1, e2, e3, e4, e5, e6, e7, e8, e9, e10, e11, e12, e13, e14, e15, e16, e17, e18]
  exact ref_result n x0 x1 x2 x3 x4 x5 x6 x7 x8 x9 x10 x11 x12 x13 x14 x15 x16 x17 x18 hn

end Cert.Work

end
-- ==== Proof.lean ====
/- The claim: the two forms of the kernel and the reference run to the end with their arguments unchanged, the named constant is
   the number it names, and over the reals the kernel's result is the reference's. -/
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Meet
public import Idealize.ShloMosaic.Adequacy
public import Idealize.ShloMosaic.Init

@[expose] public section

noncomputable section

namespace Cert.Proof

open Idealize.ShloMosaic Idealize.ShloMosaic.StableHlo Idealize.SL.Sem

/-- Under the precondition the kernel's first fifteen arguments hold real numbers. -/
theorem held (m : (ℓ : Loc Cert.KernelIdeal.nD Cert.KernelIdeal.τ Cert.KernelIdeal.sig) → Buf (Elt Ideal) ℓ)
    (hpre : letI := Cert.Work.finite_facts; Cert.Pre_KernelIdeal_finite m) (c : Dev Cert.KernelIdeal.nD) : ∃ n, Cert.Work.Held m c n :=
  Cert.Work.hold_of_finite _ _ _ _ _ _ _ _ _ _ _ _ _ _ _ _ _ _ _ (hpre c)

/-- The reference runs to the end, leaves its arguments unchanged and every counter at zero. -/
theorem reference_frame : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

/-- The two results agree over the reals. -/
theorem agree : letI := Cert.Work.finite_facts; Cert.algebraic_KernelIdeal_ReferenceIdeal_pre_finite := by
  intro m g m' g' hpre hagree
  refine ⟨fun c => (Cert.KernelIdeal.Gen.dats m 0 c).arrAt 19 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run m' g')
  obtain ⟨n, hn⟩ := held m hpre c
  obtain ⟨e0, e1, e2, e3, e4, e5, e6, e7, e8, e9, e10, e11, e12, e13, e14, e15, e16, e17, e18⟩ := hagree c
  refine (Cert.ReferenceIdeal.Read.val_main_v164_eq (launchContents m' c)).trans (Eq.trans ?_ (Cert.Work.final m c n hn).symm)
  exact Cert.Work.ref_result_of n e0 e1 e2 e3 e4 e5 e6 e7 e8 e9 e10 e11 e12 e13 e14 e15 e16 e17 e18 hn

/-- The claim. -/
theorem claim : Cert.Claim := ⟨Cert.Kernel.Gen.facts, Cert.KernelIdeal.Gen.facts, Cert.ReferenceIdeal.Gen.facts, Cert.Work.finite_facts,
  fun m ρ _ => Cert.Kernel.Gen.frame m ρ, fun m ρ _ => Cert.KernelIdeal.Gen.frame m ρ, fun m ρ _ => Cert.KernelIdeal.Gen.frame m ρ,
  reference_frame, fun m g _ => reference_frame m g trivial,
  IdealRules.named_const.statement Cert.KernelIdeal.κ "inv_sqrt_31" .f32 0x3E37EA74#32 (((Real.sqrt 31)⁻¹ : ℝ) : EReal) rfl,
  agree⟩

end Cert.Proof

end
